-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1000 : Shape := ⟨2, ![16384, 1000]⟩
abbrev S32x1x1 : Shape := ⟨3, ![32, 1, 1]⟩
abbrev S1x1x1 : Shape := ⟨3, ![1, 1, 1]⟩
abbrev S2x512x1000 : Shape := ⟨3, ![2, 512, 1000]⟩
abbrev S4x2 : Shape := ⟨2, ![4, 2]⟩
abbrev S1x1 : Shape := ⟨2, ![1, 1]⟩
abbrev S_ : Shape := ⟨0, ![]⟩
abbrev S1x512x1000 : Shape := ⟨3, ![1, 512, 1000]⟩
abbrev S512x1000 : Shape := ⟨2, ![512, 1000]⟩
abbrev S512 : Shape := ⟨1, ![512]⟩
abbrev S512x1 : Shape := ⟨2, ![512, 1]⟩
abbrev S1x512 : Shape := ⟨2, ![1, 512]⟩
abbrev S1 : Shape := ⟨1, ![1]⟩

abbrev nBuf : Space → Nat
  | .hbm => 9
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S16384x1000, .f32⟩
  | .hbm, ⟨4, _⟩ => ⟨S32x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1x1, .f32⟩
  | .local _ .vmem, ⟨1, _⟩ => ⟨S1x1x1, .f32⟩
  | .local _ .vmem, ⟨2, _⟩ => ⟨S2x512x1000, .f32⟩
  | .local _ .vmem, ⟨3, _⟩ => ⟨S2x512x1000, .f32⟩
  | .local _ .vmem, ⟨4, _⟩ => ⟨S2x512x1000, .f32⟩
  | .local _ .vmem, ⟨5, _⟩ => ⟨S2x512x1000, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c1_i32_1 : BitVec 32 := 1#32
  let v5 : BitVec 32 := Scalar.addi arg0 c1_i32_1
  let c32_i32 : BitVec 32 := 32#32
  let v6 : BitVec 1 := Scalar.cmpi .slt v5 c32_i32
  let v7 : BitVec 32 := Scalar.extui v6
  let c0_i32_2 : BitVec 32 := 0#32
  let v8 : BitVec 1 := Scalar.cmpi .ne v7 c0_i32_2
  v8

def k0_off1 (i : grid0.Coords) : Fin 2 → Nat :=
  let c0_i32_48 : BitVec 32 := 0#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![0, v1.toNat]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_49 : BitVec 32 := 0#32
  let c0_i32_50 : BitVec 32 := 0#32
  ![v1.toNat, 0, 0]
def k0_off3 (i : grid0.Coords) : Fin 2 → Nat :=
  let arg0 : BitVec 32 := BitVec.ofNat 32 (i 0).val
  let c1_i32_46 : BitVec 32 := 1#32
  let v135 : BitVec 32 := Scalar.addi arg0 c1_i32_46
  let c512_i32_47 : BitVec 32 := 512#32
  let v136 : BitVec 32 := Scalar.muli v135 c512_i32_47
  let c0_i32_51 : BitVec 32 := 0#32
  ![v136.toNat, 0]
def k0_off4 (i : grid0.Coords) : Fin 2 → Nat :=
  let c1_i32_53 : BitVec 32 := 1#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![1, v1.toNat]
def k0_off5 (i : grid0.Coords) : Fin 2 → Nat :=
  let c2_i32_58 : BitVec 32 := 2#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![2, v1.toNat]
def k0_off6 (i : grid0.Coords) : Fin 2 → Nat :=
  let c3_i32_63 : BitVec 32 := 3#32
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![3, v1.toNat]
def k0_off7 (i : grid0.Coords) : Fin 2 → Nat :=
  let c0_i32_3 : BitVec 32 := 0#32
  let arg0 : BitVec 32 := BitVec.ofNat 32 (i 0).val
  let c2_i32 : BitVec 32 := 2#32
  let v0 : BitVec 32 := Scalar.remsi arg0 c2_i32
  ![0, v0.toNat]
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  ![v0.toNat, 0, 0]
def k0_off9 (i : grid0.Coords) : Fin 2 → Nat :=
  let arg0 : BitVec 32 := BitVec.ofNat 32 (i 0).val
  let c512_i32 : BitVec 32 := 512#32
  let v9 : BitVec 32 := Scalar.muli arg0 c512_i32
  let c0_i32_6 : BitVec 32 := 0#32
  ![v9.toNat, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v15 : Index := Scalar.indexCast v0
  let c0 : Index := 0#32
  let c0_7 : Index := 0#32
  ![v15.toNat, 0, 0]
def k0_off11 (i : grid0.Coords) : Fin 2 → Nat :=
  let c1_i32_10 : BitVec 32 := 1#32
  let arg0 : BitVec 32 := BitVec.ofNat 32 (i 0).val
  let c2_i32 : BitVec 32 := 2#32
  let v0 : BitVec 32 := Scalar.remsi arg0 c2_i32
  ![1, v0.toNat]
def k0_off12 (i : grid0.Coords) : Fin 2 → Nat :=
  let c2_i32_19 : BitVec 32 := 2#32
  let arg0 : BitVec 32 := BitVec.ofNat 32 (i 0).val
  let c2_i32 : BitVec 32 := 2#32
  let v0 : BitVec 32 := Scalar.remsi arg0 c2_i32
  ![2, v0.toNat]
def k0_off13 (i : grid0.Coords) : Fin 2 → Nat :=
  let c3_i32 : BitVec 32 := 3#32
  let arg0 : BitVec 32 := BitVec.ofNat 32 (i 0).val
  let c2_i32 : BitVec 32 := 2#32
  let v0 : BitVec 32 := Scalar.remsi arg0 c2_i32
  ![3, v0.toNat]
def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S16384x1000 : Shape := ⟨2, ![16384, 1000]⟩
abbrev S6 : Shape := ⟨1, ![6]⟩
abbrev S1x16384x1000 : Shape := ⟨3, ![1, 16384, 1000]⟩
abbrev S4x16384x1000 : Shape := ⟨3, ![4, 16384, 1000]⟩
abbrev S_ : Shape := ⟨0, ![]⟩
abbrev S4x16384 : Shape := ⟨2, ![4, 16384]⟩
abbrev S4x16384x1 : Shape := ⟨3, ![4, 16384, 1]⟩
abbrev S16384x4x4 : Shape := ⟨3, ![16384, 4, 4]⟩
abbrev S4x4x16384 : Shape := ⟨3, ![4, 4, 16384]⟩
abbrev S4x1x16384 : Shape := ⟨3, ![4, 1, 16384]⟩
abbrev S1x4x16384 : Shape := ⟨3, ![1, 4, 16384]⟩
abbrev S6x1 : Shape := ⟨2, ![6, 1]⟩
abbrev S6x2 : Shape := ⟨2, ![6, 2]⟩
abbrev S6x16384 : Shape := ⟨2, ![6, 16384]⟩
abbrev S16384 : Shape := ⟨1, ![16384]⟩

abbrev nBuf : Space → Nat
  | .hbm => 60
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S16384x1000, .f32⟩
  | .hbm, ⟨4, _⟩ => ⟨S6, .i32⟩
  | .hbm, ⟨5, _⟩ => ⟨S6, .i1⟩
  | .hbm, ⟨6, _⟩ => ⟨S6, .i32⟩
  | .hbm, ⟨7, _⟩ => ⟨S6, .i1⟩
  | .hbm, ⟨8, _⟩ => ⟨S1x16384x1000, .f32⟩
  | .hbm, ⟨9, _⟩ => ⟨S1x16384x1000, .f32⟩
  | .hbm, ⟨10, _⟩ => ⟨S1x16384x1000, .f32⟩
  | .hbm, ⟨11, _⟩ => ⟨S1x16384x1000, .f32⟩
  | .hbm, ⟨12, _⟩ => ⟨S4x16384x1000, .f32⟩
  | .hbm, ⟨13, _⟩ => ⟨S_, .f32⟩
  | .hbm, ⟨14, _⟩ => ⟨S4x16384, .f32⟩
  | .hbm, ⟨15, _⟩ => ⟨S_, .f32⟩
  | .hbm, ⟨16, _⟩ => ⟨S4x16384, .f32⟩
  | .hbm, ⟨17, _⟩ => ⟨S4x16384, .f32⟩
  | .hbm, ⟨18, _⟩ => ⟨S4x16384x1, .f32⟩
  | .hbm, ⟨19, _⟩ => ⟨S4x16384x1000, .f32⟩
  | .hbm, ⟨20, _⟩ => ⟨S4x16384x1000, .f32⟩
  | .hbm, ⟨21, _⟩ => ⟨S4x16384x1000, .f32⟩
  | .hbm, ⟨22, _⟩ => ⟨S_, .f32⟩
  | .hbm, ⟨23, _⟩ => ⟨S4x16384, .f32⟩
  | .hbm, ⟨24, _⟩ => ⟨S4x16384x1, .f32⟩
  | .hbm, ⟨25, _⟩ => ⟨S4x16384x1000, .f32⟩
  | .hbm, ⟨26, _⟩ => ⟨S4x16384x1000, .f32⟩
  | .hbm, ⟨27, _⟩ => ⟨S16384x4x4, .f32⟩
  | .hbm, ⟨28, _⟩ => ⟨S4x4x16384, .f32⟩
  | .hbm, ⟨29, _⟩ => ⟨S4x16384, .f32⟩
  | .hbm, ⟨30, _⟩ => ⟨S4x16384, .f32⟩
  | .hbm, ⟨31, _⟩ => ⟨S4x1x16384, .f32⟩
  | .hbm, ⟨32, _⟩ => ⟨S1x4x16384, .f32⟩
  | .hbm, ⟨33, _⟩ => ⟨S4x4x16384, .f32⟩
  | .hbm, ⟨34, _⟩ => ⟨S4x4x16384, .f32⟩
  | .hbm, ⟨35, _⟩ => ⟨S4x4x16384, .f32⟩
  | .hbm, ⟨36, _⟩ => ⟨S_, .f32⟩
  | .hbm, ⟨37, _⟩ => ⟨S4x4x16384, .f32⟩
  | .hbm, ⟨38, _⟩ => ⟨S4x4x16384, .f32⟩
  | .hbm, ⟨39, _⟩ => ⟨S4x4x16384, .f32⟩
  | .hbm, ⟨40, _⟩ => ⟨S_, .i32⟩
  | .hbm, ⟨41, _⟩ => ⟨S6, .i32⟩
  | .hbm, ⟨42, _⟩ => ⟨S6, .i32⟩
  | .hbm, ⟨43, _⟩ => ⟨S6, .i32⟩
  | .hbm, ⟨44, _⟩ => ⟨S_, .i32⟩
  | .hbm, ⟨45, _⟩ => ⟨S6, .i32⟩
  | .hbm, ⟨46, _⟩ => ⟨S6, .i32⟩
  | .hbm, ⟨47, _⟩ => ⟨S6, .i32⟩
  | .hbm, ⟨48, _⟩ => ⟨S6x1, .i32⟩
  | .hbm, ⟨49, _⟩ => ⟨S6x1, .i32⟩
  | .hbm, ⟨50, _⟩ => ⟨S6x2, .i32⟩
  | .hbm, ⟨51, _⟩ => ⟨S6x16384, .f32⟩
  | .hbm, ⟨52, _⟩ => ⟨S6x16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Proof.RingSteps.lean ====
/- A ring of two slots through which 32 blocks pass, one block started ahead, its blocks not held apart: what is held
   before a step, taken apart, and what is held after it, put together. Three kinds of step: the first (nothing has been
   started), a middle one, and the last (nothing is left to start). Stated for any cells, slots and flights, so that the
   four operands of the kernel and both of its readings share them. -/
module

public import Idealize.ShloMosaic.Lib.Ring

@[expose] public section

namespace Cert.RingSteps

open Idealize.ShloMosaic
open Idealize.SL Idealize.SL.RA
open Idealize.SL.BI (sProp bigSep)
open scoped Idealize.SL.BI
open Idealize.SL.BI.BIBase Idealize.SL.BI.Laws Idealize.SL.ProofMode

variable {M : Type} [URA M] {C : Fin 2 → Type}
variable {cell : Fin 2 → sProp M} {slot : (s : Fin 2) → C s → sProp M}
variable {flight : (s : Fin 2) → Fin 32 → C s → sProp M} {landed : (s : Fin 2) → Fin 32 → C s → C s}

/-- Before the first step both slots are free. -/
theorem first_open (k : ℕ) (hk : k = 0) :
    Ring.At₀ cell slot (fun _ : Fin 32 => (emp : sProp M))
      ⊢ iprop(Ring.free cell slot (Ring.sl 2 k) ∗ Ring.free cell slot (Ring.sl 2 (k + 1))) := by
  rw [Ring.At₀_eq2' _ _ _ k hk (by decide : 2 ≤ 32)]
  iintro ⟨-, Ha, Hb⟩
  isplitl [Ha]; · iexact Ha
  iexact Hb

/-- After the first step: the next block in flight, the block just waited for kept. -/
theorem first_close (k : ℕ) (hk : k = 0) :
    iprop(Ring.inflight flight (Ring.sl 2 (k + 1)) (Ring.bk 32 (k + 1)) ∗ Ring.kept cell slot landed (Ring.sl 2 k) (Ring.bk 32 k))
      ⊢ Ring.AtK 1 cell slot (fun _ : Fin 32 => (emp : sProp M)) flight landed (k + 1) := by
  rw [Ring.AtK2_one' _ _ _ _ _ k hk (by decide : 1 < 32)]
  exact Ring.with_homes₀

/-- Before a middle step: its block in flight, the block before it kept. -/
theorem mid_open (k : ℕ) (h : 1 ≤ k) (h' : k + 1 < 32) :
    Ring.AtK 1 cell slot (fun _ : Fin 32 => (emp : sProp M)) flight landed k
      ⊢ iprop(Ring.inflight flight (Ring.sl 2 k) (Ring.bk 32 k)
        ∗ Ring.kept cell slot landed (Ring.sl 2 (k + 1)) (Ring.bk 32 (k - 1))) := by
  rw [Ring.AtK2_here _ _ _ _ _ k h h']
  iintro ⟨-, Ha, Hb⟩
  isplitl [Ha]; · iexact Ha
  iexact Hb

/-- After a middle step: the next block in flight, the block just waited for kept. -/
theorem mid_close (k : ℕ) (h : 1 ≤ k) (h' : k + 1 < 32) :
    iprop(Ring.inflight flight (Ring.sl 2 (k + 1)) (Ring.bk 32 (k + 1)) ∗ Ring.kept cell slot landed (Ring.sl 2 k) (Ring.bk 32 k))
      ⊢ Ring.AtK 1 cell slot (fun _ : Fin 32 => (emp : sProp M)) flight landed (k + 1) := by
  rw [Ring.AtK2_next _ _ _ _ _ k h h']
  exact Ring.with_homes (Idealize.SL.BI.Entails.refl _)

/-- Before the last step: its block in flight, the block before it kept. -/
theorem last_open (k : ℕ) (h : 1 ≤ k) (h' : k + 1 = 32) :
    Ring.AtK 1 cell slot (fun _ : Fin 32 => (emp : sProp M)) flight landed k
      ⊢ iprop(Ring.inflight flight (Ring.sl 2 k) (Ring.bk 32 k)
        ∗ Ring.kept cell slot landed (Ring.sl 2 (k + 1)) (Ring.bk 32 (k - 1))) := by
  rw [Ring.AtK2_here_last _ _ _ _ _ k h h']
  iintro ⟨-, Ha, Hb⟩
  isplitl [Ha]; · iexact Ha
  iexact Hb

/-- After the last step both slots keep a block. -/
theorem last_close (k : ℕ) (h : 1 ≤ k) (h' : k + 1 = 32) :
    iprop(Ring.kept cell slot landed (Ring.sl 2 (k + 1)) (Ring.bk 32 (k - 1)) ∗ Ring.kept cell slot landed (Ring.sl 2 k) (Ring.bk 32 k))
      ⊢ Ring.AtK 1 cell slot (fun _ : Fin 32 => (emp : sProp M)) flight landed (k + 1) := by
  rw [Ring.AtK2_next_last _ _ _ _ _ k h h']
  exact Ring.with_homes (Idealize.SL.BI.Entails.refl _)

end Cert.RingSteps
-- ==== Proof.IdealFrame.lean ====
/- The kernel over the extended reals: what every grid point stores, and the run.

   The four operands stay in HBM; each passes through a scratch buffer of two slots in 32 blocks of 512 rows, the next
   block's transfer started before the present block is waited for. A point stores one number, which is a function of
   the four blocks it waited for (`blockLoss`). The three ways a point goes (it starts both its own block and the next;
   it starts the next; it starts none) store the same thing (`pieces_first`, `pieces_mid`, `pieces_last`). -/
module

public import proofs.«01_k».proof.Proof.Gen.KernelIdeal.Frame.RunC
public import proofs.«01_k».proof.Proof.RingSteps
public import Idealize.ShloMosaic.Lib.Claim
public import Idealize.ShloMosaic.Lib.Pipeline.Value
public import Idealize.ShloMosaic.Lib.VecWindow

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a point stores -/

/-- A block of rows as a slot holds it: one more axis of length one in front. -/
theorem block_casts : S512x1000.ShapeCasts S1x512x1000 := by decide

/-- The number a point stores, from the four blocks of rows it waited for. -/
def blockLoss (x0 x1 x2 x3 : Vec F S1x512x1000 .f32) : FVec F S1x1x1 .f32 :=
  k0_pay1 (k0_pay15 (k0_pay6 x2) (k0_pay7 x2) (k0_pay8 x3))
    (k0_pay16 (k0_pay2 x0) (k0_pay3 x0) (k0_pay4 x1) (k0_pay5 x1) (k0_pay6 x2) (k0_pay7 x2) (k0_pay8 x3))
    (k0_pay17 (k0_pay2 x0) (k0_pay3 x0) (k0_pay4 x1) (k0_pay5 x1) (k0_pay6 x2) (k0_pay7 x2) (k0_pay8 x3))
    (k0_pay18 (k0_pay2 x0) (k0_pay3 x0) (k0_pay4 x1) (k0_pay5 x1) (k0_pay6 x2) (k0_pay7 x2) (k0_pay8 x3))

/-- Where a point reads in a scratch buffer: the slot of its block. -/
theorem slot_off : ∀ t : Fin cfg0.N,
    (![BitVec.toNat (Scalar.indexCast (Scalar.remsi (BitVec.ofNat 32 ((grid0.coords t) 0).val) 2#32)), 0, 0] : Fin 3 → ℕ)
      = ![(Ring.sl 2 t.val).val, 0, 0] :=
  (by decide +kernel : ∀ t : Fin grid0.N, (![BitVec.toNat (Scalar.indexCast (Scalar.remsi (BitVec.ofNat 32 ((grid0.coords t) 0).val) 2#32)), 0, 0] : Fin 3 → ℕ)
      = ![(Ring.sl 2 t.val).val, 0, 0])

/-- A rectangle of a buffer read back after one write of the whole of its squeezed view. -/
theorem landed_read {κ : Kind} {cs : Space} {s s' : Shape} {e : EltTy} {Val : EltTy → Type} (M : Memref sig κ cs s e)
    (r : Rect s) (hr : ∀ a, r.stride a = 1) (hq : r.shape.Squeezes s') (hc : r.shape.ShapeCasts s') (hb : s'.ShapeCasts r.shape)
    (f : M.view.ty.Contents Val) (v : s'.Idx → Val e) :
    M.view.readAt Val r.toLoadRect (((M.slice r hr).squeeze s' hq).view.writes Val f [⟨Rect.whole s', v⟩]) = shapeCast r.shape v hb := by
  have h := Memref.read_squeeze_slice M r hr hq hc (((M.slice r hr).squeeze s' hq).view.writes Val f [⟨Rect.whole s', v⟩])
  rw [show ((M.slice r hr).squeeze s' hq).view.read Val (((M.slice r hr).squeeze s' hq).view.writes Val f [⟨Rect.whole s', v⟩]) = v
    from View.read_writes_full _ _ (off := fun _ => 0) (fun a => by simp) v []] at h
  exact (shapeCast_shapeCast _ hc hb).symm.trans (congrArg (fun u => shapeCast r.shape u hb) h.symm)

/-- Operand 0's rows that point `t` waits for. -/
def slab0 (c : Dev nD) (t : Fin cfg0.N) (fh : HbBuf0 (F := F) c hbM0_0) : Vec F S1x512x1000 .f32 :=
  shapeCast S1x512x1000 ((srcB0_0 (Ring.bk 32 t.val)).view.read (Elt F) fh) block_casts

/-- The point reads them out of its slot once they have landed there. -/
theorem load0 (c : Dev nD) (t : Fin cfg0.N) (fh : HbBuf0 (F := F) c hbM0_0) (off : Fin 3 → ℕ)
    (ho : off = ![(Ring.sl 2 t.val).val, 0, 0]) (inb : ∀ a, off a + S1x512x1000.size a ≤ S2x512x1000.size a) :
    View.readAt (Elt F) scM0_0.view (Rect.unit (s := S2x512x1000) off S1x512x1000.size inb).toLoadRect
      ((rslot0_0 (Ring.sl 2 t.val)).view.writes (Elt F) (rslot0_0 (Ring.sl 2 t.val)).view.junk
        [⟨Rect.whole S512x1000, ReadAs.same.apply ((srcB0_0 (Ring.bk 32 t.val)).view.read (Elt F) fh)⟩])
      = slab0 c t fh := by
  subst ho
  exact landed_read scM0_0 _ (fun _ => rfl) squeezes_S1x512x1000_S512x1000 shapeCasts_S1x512x1000_S512x1000 block_casts _ _

/-- Operand 1's rows that point `t` waits for. -/
def slab1 (c : Dev nD) (t : Fin cfg0.N) (fh : HbBuf0 (F := F) c hbM0_1) : Vec F S1x512x1000 .f32 :=
  shapeCast S1x512x1000 ((srcB0_1 (Ring.bk 32 t.val)).view.read (Elt F) fh) block_casts

/-- The point reads them out of its slot once they have landed there. -/
theorem load1 (c : Dev nD) (t : Fin cfg0.N) (fh : HbBuf0 (F := F) c hbM0_1) (off : Fin 3 → ℕ)
    (ho : off = ![(Ring.sl 2 t.val).val, 0, 0]) (inb : ∀ a, off a + S1x512x1000.size a ≤ S2x512x1000.size a) :
    View.readAt (Elt F) scM0_1.view (Rect.unit (s := S2x512x1000) off S1x512x1000.size inb).toLoadRect
      ((rslot0_1 (Ring.sl 2 t.val)).view.writes (Elt F) (rslot0_1 (Ring.sl 2 t.val)).view.junk
        [⟨Rect.whole S512x1000, ReadAs.same.apply ((srcB0_1 (Ring.bk 32 t.val)).view.read (Elt F) fh)⟩])
      = slab1 c t fh := by
  subst ho
  exact landed_read scM0_1 _ (fun _ => rfl) squeezes_S1x512x1000_S512x1000 shapeCasts_S1x512x1000_S512x1000 block_casts _ _

/-- Operand 2's rows that point `t` waits for. -/
def slab2 (c : Dev nD) (t : Fin cfg0.N) (fh : HbBuf0 (F := F) c hbM0_2) : Vec F S1x512x1000 .f32 :=
  shapeCast S1x512x1000 ((srcB0_2 (Ring.bk 32 t.val)).view.read (Elt F) fh) block_casts

/-- The point reads them out of its slot once they have landed there. -/
theorem load2 (c : Dev nD) (t : Fin cfg0.N) (fh : HbBuf0 (F := F) c hbM0_2) (off : Fin 3 → ℕ)
    (ho : off = ![(Ring.sl 2 t.val).val, 0, 0]) (inb : ∀ a, off a + S1x512x1000.size a ≤ S2x512x1000.size a) :
    View.readAt (Elt F) scM0_2.view (Rect.unit (s := S2x512x1000) off S1x512x1000.size inb).toLoadRect
      ((rslot0_2 (Ring.sl 2 t.val)).view.writes (Elt F) (rslot0_2 (Ring.sl 2 t.val)).view.junk
        [⟨Rect.whole S512x1000, ReadAs.same.apply ((srcB0_2 (Ring.bk 32 t.val)).view.read (Elt F) fh)⟩])
      = slab2 c t fh := by
  subst ho
  exact landed_read scM0_2 _ (fun _ => rfl) squeezes_S1x512x1000_S512x1000 shapeCasts_S1x512x1000_S512x1000 block_casts _ _

/-- Operand 3's rows that point `t` waits for. -/
def slab3 (c : Dev nD) (t : Fin cfg0.N) (fh : HbBuf0 (F := F) c hbM0_3) : Vec F S1x512x1000 .f32 :=
  shapeCast S1x512x1000 ((srcB0_3 (Ring.bk 32 t.val)).view.read (Elt F) fh) block_casts

/-- The point reads them out of its slot once they have landed there. -/
theorem load3 (c : Dev nD) (t : Fin cfg0.N) (fh : HbBuf0 (F := F) c hbM0_3) (off : Fin 3 → ℕ)
    (ho : off = ![(Ring.sl 2 t.val).val, 0, 0]) (inb : ∀ a, off a + S1x512x1000.size a ≤ S2x512x1000.size a) :
    View.readAt (Elt F) scM0_3.view (Rect.unit (s := S2x512x1000) off S1x512x1000.size inb).toLoadRect
      ((rslot0_3 (Ring.sl 2 t.val)).view.writes (Elt F) (rslot0_3 (Ring.sl 2 t.val)).view.junk
        [⟨Rect.whole S512x1000, ReadAs.same.apply ((srcB0_3 (Ring.bk 32 t.val)).view.read (Elt F) fh)⟩])
      = slab3 c t fh := by
  subst ho
  exact landed_read scM0_3 _ (fun _ => rfl) squeezes_S1x512x1000_S512x1000 shapeCasts_S1x512x1000_S512x1000 block_casts _ _

theorem blockLoss_congr {x0 x1 x2 x3 y0 y1 y2 y3 : Vec F S1x512x1000 .f32} (h0 : x0 = y0) (h1 : x1 = y1) (h2 : x2 = y2) (h3 : x3 = y3) :
    blockLoss x0 x1 x2 x3 = blockLoss y0 y1 y2 y3 := by rw [h0, h1, h2, h3]

/-- What a point stores: one number into the whole of its block. -/
def stored (c : Dev nD) (t : Fin cfg0.N) (fh0 : HbBuf0 (F := F) c hbM0_0) (fh1 : HbBuf0 (F := F) c hbM0_1) (fh2 : HbBuf0 (F := F) c hbM0_2) (fh3 : HbBuf0 (F := F) c hbM0_3) : List (View.Piece (Elt F) S1x1x1 .f32) :=
  [⟨Rect.unit ![0, 0, 0] ![1, 1, 1] inb_S1x1x1_S1x1x1_0_0_0, blockLoss (slab0 c t fh0) (slab1 c t fh1) (slab2 c t fh2) (slab3 c t fh3)⟩]

/-- What a point that starts its own block and the next stores. -/
theorem pieces_first (c : Dev nD) (t : Fin cfg0.N) (arg5 : Memref sig .tc .vmem S1x1x1 .f32) (harg5 : arg5.IsWhole)
    (hc0 : cond0_0 (grid0.coords t)) (hc1 : cond0_1 (grid0.coords t)) (fh0 : HbBuf0 (F := F) c hbM0_0) (fh1 : HbBuf0 (F := F) c hbM0_1) (fh2 : HbBuf0 (F := F) c hbM0_2) (fh3 : HbBuf0 (F := F) c hbM0_3) :
    (kernelRun0_A c t arg5 harg5 hc0 hc1 fh0 fh1 fh2 fh3).1 = stored c t fh0 fh1 fh2 fh3 := by
  unfold kernelRun0_A stored
  dsimp only
  sl_unfold_words
  exact congrArg (fun v => [(⟨Rect.unit ![0, 0, 0] ![1, 1, 1] inb_S1x1x1_S1x1x1_0_0_0, v⟩ : View.Piece (Elt F) S1x1x1 .f32)])
    (blockLoss_congr (load0 c t fh0 _ (slot_off t) _) (load1 c t fh1 _ (slot_off t) _) (load2 c t fh2 _ (slot_off t) _) (load3 c t fh3 _ (slot_off t) _))

/-- What a point that starts the next block stores. -/
theorem pieces_mid (c : Dev nD) (t : Fin cfg0.N) (arg5 : Memref sig .tc .vmem S1x1x1 .f32) (harg5 : arg5.IsWhole)
    (hc0 : ¬cond0_0 (grid0.coords t)) (hc1 : cond0_1 (grid0.coords t)) (fh0 : HbBuf0 (F := F) c hbM0_0) (fh1 : HbBuf0 (F := F) c hbM0_1) (fh2 : HbBuf0 (F := F) c hbM0_2) (fh3 : HbBuf0 (F := F) c hbM0_3) :
    (kernelRun0_B c t arg5 harg5 hc0 hc1 fh0 fh1 fh2 fh3).1 = stored c t fh0 fh1 fh2 fh3 := by
  unfold kernelRun0_B stored
  dsimp only
  sl_unfold_words
  exact congrArg (fun v => [(⟨Rect.unit ![0, 0, 0] ![1, 1, 1] inb_S1x1x1_S1x1x1_0_0_0, v⟩ : View.Piece (Elt F) S1x1x1 .f32)])
    (blockLoss_congr (load0 c t fh0 _ (slot_off t) _) (load1 c t fh1 _ (slot_off t) _) (load2 c t fh2 _ (slot_off t) _) (load3 c t fh3 _ (slot_off t) _))

/-- What the last point, which starts none stores. -/
theorem pieces_last (c : Dev nD) (t : Fin cfg0.N) (arg5 : Memref sig .tc .vmem S1x1x1 .f32) (harg5 : arg5.IsWhole)
    (hc0 : ¬cond0_0 (grid0.coords t)) (hc1 : ¬cond0_1 (grid0.coords t)) (fh0 : HbBuf0 (F := F) c hbM0_0) (fh1 : HbBuf0 (F := F) c hbM0_1) (fh2 : HbBuf0 (F := F) c hbM0_2) (fh3 : HbBuf0 (F := F) c hbM0_3) :
    (kernelRun0_C c t arg5 harg5 hc0 hc1 fh0 fh1 fh2 fh3).1 = stored c t fh0 fh1 fh2 fh3 := by
  unfold kernelRun0_C stored
  dsimp only
  sl_unfold_words
  exact congrArg (fun v => [(⟨Rect.unit ![0, 0, 0] ![1, 1, 1] inb_S1x1x1_S1x1x1_0_0_0, v⟩ : View.Piece (Elt F) S1x1x1 .f32)])
    (blockLoss_congr (load0 c t fh0 _ (slot_off t) _) (load1 c t fh1 _ (slot_off t) _) (load2 c t fh2 _ (slot_off t) _) (load3 c t fh3 _ (slot_off t) _))

/-- The block a point stores is covered by what it stores. -/
theorem stored_cover (c : Dev nD) (t : Fin cfg0.N) (fh0 : HbBuf0 (F := F) c hbM0_0) (fh1 : HbBuf0 (F := F) c hbM0_1) (fh2 : HbBuf0 (F := F) c hbM0_2) (fh3 : HbBuf0 (F := F) c hbM0_3) (y : S1x1x1.Idx) :
    ∃ pc ∈ stored c t fh0 fh1 fh2 fh3, y ∈ pc.1.set :=
  View.cover_of_tiledL (stored c t fh0 fh1 fh2 fh3) S1x1x1.size (by sl_kernel_rfl) y

/-- What point `t` leaves in the output's staging buffer. -/
def outAt (c : Dev nD) (t : Fin cfg0.N) : Vec F S1x1x1 .f32 :=
  VO0_0.read (Elt F) (VO0_0.writes (Elt F) VO0_0.junk (stored c t (V m c main_arg0) (V m c main_arg1) (V m c main_arg2) (V m c main_arg3)))

/-! ## What is held between points, and a point's step -/

/-- What is held before step `k`: the generator register, and the four rings. -/
def held (c : Dev nD) (k : ℕ) : sProp 𝕄 :=
  iprop((∃ r, prngReg c r) ∗ ringAt0_0 c (V m c main_arg0) k ∗ ringAt0_1 c (V m c main_arg1) k ∗ ringAt0_2 c (V m c main_arg2) k ∗ ringAt0_3 c (V m c main_arg3) k)

/-- The proof data of the pipeline: the output array as the region finds it; after point `t` the staging buffer at
    `outAt`; between points, `held`. -/
def dats (_ : Fin 1) (c : Dev nD) : Dat τ (Elt F) Unit ℕ (Pipeline.UD sig nD τ) ℕ cfg0 c where
  A w := V m c (Pipeline.arrRef spec0 w)
  after w t := match w with
    | ⟨0, _⟩ => outAt m c t
  Φ t := held m c t.val
  q _ := fullShare
  owed _ := 0

theorem dats_A (c : Dev nD) (w : Fin cfg0.W) : (dats m 0 c).A w = V m c (Pipeline.arrRef spec0 w) := by dsimp only [dats]
theorem dats_after (c : Dev nD) (t : Fin cfg0.N) : (dats m 0 c).after 0 t = outAt m c t := by dsimp only [dats]
theorem dats_before (c : Dev nD) (t : Fin cfg0.N) : (dats m 0 c).Φ t.castSucc = held m c t.val := by
  dsimp only [dats]; simp only [Fin.coe_castSucc]
theorem dats_next (c : Dev nD) (t : Fin cfg0.N) : (dats m 0 c).Φ t.succ = held m c (t.val + 1) := by
  dsimp only [dats]; simp only [Fin.val_succ]

/-! Operand 0's ring, step by step. -/

theorem ring0_first_open (c : Dev nD) (W : HbBuf0 (F := F) c hbM0_0) (k : ℕ) (hk : k = 0) :
    ringAt0_0 c W k ⊢ iprop(Ring.free (cellP0_0 c) (slotW0_0 c W) (Ring.sl 2 k)
      ∗ Ring.free (cellP0_0 c) (slotW0_0 c W) (Ring.sl 2 (k + 1))) := by
  unfold ringAt0_0; rw [if_pos hk]; exact Cert.RingSteps.first_open k hk
theorem ring0_first_close (c : Dev nD) (W : HbBuf0 (F := F) c hbM0_0) (k : ℕ) (hk : k = 0) :
    iprop(Ring.inflight (flightW0_0 c W) (Ring.sl 2 (k + 1)) (Ring.bk 32 (k + 1))
      ∗ Ring.kept (cellP0_0 c) (slotW0_0 c W) (landed0_0 c W) (Ring.sl 2 k) (Ring.bk 32 k)) ⊢ ringAt0_0 c W (k + 1) := by
  unfold ringAt0_0; rw [if_neg (Nat.succ_ne_zero k)]; exact Cert.RingSteps.first_close k hk
theorem ring0_mid_open (c : Dev nD) (W : HbBuf0 (F := F) c hbM0_0) (k : ℕ) (h : 1 ≤ k) (h' : k + 1 < 32) :
    ringAt0_0 c W k ⊢ iprop(Ring.inflight (flightW0_0 c W) (Ring.sl 2 k) (Ring.bk 32 k)
      ∗ Ring.kept (cellP0_0 c) (slotW0_0 c W) (landed0_0 c W) (Ring.sl 2 (k + 1)) (Ring.bk 32 (k - 1))) := by
  unfold ringAt0_0; rw [if_neg (by omega)]; exact Cert.RingSteps.mid_open k h h'
theorem ring0_mid_close (c : Dev nD) (W : HbBuf0 (F := F) c hbM0_0) (k : ℕ) (h : 1 ≤ k) (h' : k + 1 < 32) :
    iprop(Ring.inflight (flightW0_0 c W) (Ring.sl 2 (k + 1)) (Ring.bk 32 (k + 1))
      ∗ Ring.kept (cellP0_0 c) (slotW0_0 c W) (landed0_0 c W) (Ring.sl 2 k) (Ring.bk 32 k)) ⊢ ringAt0_0 c W (k + 1) := by
  unfold ringAt0_0; rw [if_neg (Nat.succ_ne_zero k)]; exact Cert.RingSteps.mid_close k h h'
theorem ring0_last_open (c : Dev nD) (W : HbBuf0 (F := F) c hbM0_0) (k : ℕ) (h : 1 ≤ k) (h' : k + 1 = 32) :
    ringAt0_0 c W k ⊢ iprop(Ring.inflight (flightW0_0 c W) (Ring.sl 2 k) (Ring.bk 32 k)
      ∗ Ring.kept (cellP0_0 c) (slotW0_0 c W) (landed0_0 c W) (Ring.sl 2 (k + 1)) (Ring.bk 32 (k - 1))) := by
  unfold ringAt0_0; rw [if_neg (by omega)]; exact Cert.RingSteps.last_open k h h'
theorem ring0_last_close (c : Dev nD) (W : HbBuf0 (F := F) c hbM0_0) (k : ℕ) (h : 1 ≤ k) (h' : k + 1 = 32) :
    iprop(Ring.kept (cellP0_0 c) (slotW0_0 c W) (landed0_0 c W) (Ring.sl 2 (k + 1)) (Ring.bk 32 (k - 1))
      ∗ Ring.kept (cellP0_0 c) (slotW0_0 c W) (landed0_0 c W) (Ring.sl 2 k) (Ring.bk 32 k)) ⊢ ringAt0_0 c W (k + 1) := by
  unfold ringAt0_0; rw [if_neg (Nat.succ_ne_zero k)]; exact Cert.RingSteps.last_close k h h'

/-! Operand 1's ring, step by step. -/

theorem ring1_first_open (c : Dev nD) (W : HbBuf0 (F := F) c hbM0_1) (k : ℕ) (hk : k = 0) :
    ringAt0_1 c W k ⊢ iprop(Ring.free (cellP0_1 c) (slotW0_1 c W) (Ring.sl 2 k)
      ∗ Ring.free (cellP0_1 c) (slotW0_1 c W) (Ring.sl 2 (k + 1))) := by
  unfold ringAt0_1; rw [if_pos hk]; exact Cert.RingSteps.first_open k hk
theorem ring1_first_close (c : Dev nD) (W : HbBuf0 (F := F) c hbM0_1) (k : ℕ) (hk : k = 0) :
    iprop(Ring.inflight (flightW0_1 c W) (Ring.sl 2 (k + 1)) (Ring.bk 32 (k + 1))
      ∗ Ring.kept (cellP0_1 c) (slotW0_1 c W) (landed0_1 c W) (Ring.sl 2 k) (Ring.bk 32 k)) ⊢ ringAt0_1 c W (k + 1) := by
  unfold ringAt0_1; rw [if_neg (Nat.succ_ne_zero k)]; exact Cert.RingSteps.first_close k hk
theorem ring1_mid_open (c : Dev nD) (W : HbBuf0 (F := F) c hbM0_1) (k : ℕ) (h : 1 ≤ k) (h' : k + 1 < 32) :
    ringAt0_1 c W k ⊢ iprop(Ring.inflight (flightW0_1 c W) (Ring.sl 2 k) (Ring.bk 32 k)
      ∗ Ring.kept (cellP0_1 c) (slotW0_1 c W) (landed0_1 c W) (Ring.sl 2 (k + 1)) (Ring.bk 32 (k - 1))) := by
  unfold ringAt0_1; rw [if_neg (by omega)]; exact Cert.RingSteps.mid_open k h h'
theorem ring1_mid_close (c : Dev nD) (W : HbBuf0 (F := F) c hbM0_1) (k : ℕ) (h : 1 ≤ k) (h' : k + 1 < 32) :
    iprop(Ring.inflight (flightW0_1 c W) (Ring.sl 2 (k + 1)) (Ring.bk 32 (k + 1))
      ∗ Ring.kept (cellP0_1 c) (slotW0_1 c W) (landed0_1 c W) (Ring.sl 2 k) (Ring.bk 32 k)) ⊢ ringAt0_1 c W (k + 1) := by
  unfold ringAt0_1; rw [if_neg (Nat.succ_ne_zero k)]; exact Cert.RingSteps.mid_close k h h'
theorem ring1_last_open (c : Dev nD) (W : HbBuf0 (F := F) c hbM0_1) (k : ℕ) (h : 1 ≤ k) (h' : k + 1 = 32) :
    ringAt0_1 c W k ⊢ iprop(Ring.inflight (flightW0_1 c W) (Ring.sl 2 k) (Ring.bk 32 k)
      ∗ Ring.kept (cellP0_1 c) (slotW0_1 c W) (landed0_1 c W) (Ring.sl 2 (k + 1)) (Ring.bk 32 (k - 1))) := by
  unfold ringAt0_1; rw [if_neg (by omega)]; exact Cert.RingSteps.last_open k h h'
theorem ring1_last_close (c : Dev nD) (W : HbBuf0 (F := F) c hbM0_1) (k : ℕ) (h : 1 ≤ k) (h' : k + 1 = 32) :
    iprop(Ring.kept (cellP0_1 c) (slotW0_1 c W) (landed0_1 c W) (Ring.sl 2 (k + 1)) (Ring.bk 32 (k - 1))
      ∗ Ring.kept (cellP0_1 c) (slotW0_1 c W) (landed0_1 c W) (Ring.sl 2 k) (Ring.bk 32 k)) ⊢ ringAt0_1 c W (k + 1) := by
  unfold ringAt0_1; rw [if_neg (Nat.succ_ne_zero k)]; exact Cert.RingSteps.last_close k h h'

/-! Operand 2's ring, step by step. -/

theorem ring2_first_open (c : Dev nD) (W : HbBuf0 (F := F) c hbM0_2) (k : ℕ) (hk : k = 0) :
    ringAt0_2 c W k ⊢ iprop(Ring.free (cellP0_2 c) (slotW0_2 c W) (Ring.sl 2 k)
      ∗ Ring.free (cellP0_2 c) (slotW0_2 c W) (Ring.sl 2 (k + 1))) := by
  unfold ringAt0_2; rw [if_pos hk]; exact Cert.RingSteps.first_open k hk
theorem ring2_first_close (c : Dev nD) (W : HbBuf0 (F := F) c hbM0_2) (k : ℕ) (hk : k = 0) :
    iprop(Ring.inflight (flightW0_2 c W) (Ring.sl 2 (k + 1)) (Ring.bk 32 (k + 1))
      ∗ Ring.kept (cellP0_2 c) (slotW0_2 c W) (landed0_2 c W) (Ring.sl 2 k) (Ring.bk 32 k)) ⊢ ringAt0_2 c W (k + 1) := by
  unfold ringAt0_2; rw [if_neg (Nat.succ_ne_zero k)]; exact Cert.RingSteps.first_close k hk
theorem ring2_mid_open (c : Dev nD) (W : HbBuf0 (F := F) c hbM0_2) (k : ℕ) (h : 1 ≤ k) (h' : k + 1 < 32) :
    ringAt0_2 c W k ⊢ iprop(Ring.inflight (flightW0_2 c W) (Ring.sl 2 k) (Ring.bk 32 k)
      ∗ Ring.kept (cellP0_2 c) (slotW0_2 c W) (landed0_2 c W) (Ring.sl 2 (k + 1)) (Ring.bk 32 (k - 1))) := by
  unfold ringAt0_2; rw [if_neg (by omega)]; exact Cert.RingSteps.mid_open k h h'
theorem ring2_mid_close (c : Dev nD) (W : HbBuf0 (F := F) c hbM0_2) (k : ℕ) (h : 1 ≤ k) (h' : k + 1 < 32) :
    iprop(Ring.inflight (flightW0_2 c W) (Ring.sl 2 (k + 1)) (Ring.bk 32 (k + 1))
      ∗ Ring.kept (cellP0_2 c) (slotW0_2 c W) (landed0_2 c W) (Ring.sl 2 k) (Ring.bk 32 k)) ⊢ ringAt0_2 c W (k + 1) := by
  unfold ringAt0_2; rw [if_neg (Nat.succ_ne_zero k)]; exact Cert.RingSteps.mid_close k h h'
theorem ring2_last_open (c : Dev nD) (W : HbBuf0 (F := F) c hbM0_2) (k : ℕ) (h : 1 ≤ k) (h' : k + 1 = 32) :
    ringAt0_2 c W k ⊢ iprop(Ring.inflight (flightW0_2 c W) (Ring.sl 2 k) (Ring.bk 32 k)
      ∗ Ring.kept (cellP0_2 c) (slotW0_2 c W) (landed0_2 c W) (Ring.sl 2 (k + 1)) (Ring.bk 32 (k - 1))) := by
  unfold ringAt0_2; rw [if_neg (by omega)]; exact Cert.RingSteps.last_open k h h'
theorem ring2_last_close (c : Dev nD) (W : HbBuf0 (F := F) c hbM0_2) (k : ℕ) (h : 1 ≤ k) (h' : k + 1 = 32) :
    iprop(Ring.kept (cellP0_2 c) (slotW0_2 c W) (landed0_2 c W) (Ring.sl 2 (k + 1)) (Ring.bk 32 (k - 1))
      ∗ Ring.kept (cellP0_2 c) (slotW0_2 c W) (landed0_2 c W) (Ring.sl 2 k) (Ring.bk 32 k)) ⊢ ringAt0_2 c W (k + 1) := by
  unfold ringAt0_2; rw [if_neg (Nat.succ_ne_zero k)]; exact Cert.RingSteps.last_close k h h'

/-! Operand 3's ring, step by step. -/

theorem ring3_first_open (c : Dev nD) (W : HbBuf0 (F := F) c hbM0_3) (k : ℕ) (hk : k = 0) :
    ringAt0_3 c W k ⊢ iprop(Ring.free (cellP0_3 c) (slotW0_3 c W) (Ring.sl 2 k)
      ∗ Ring.free (cellP0_3 c) (slotW0_3 c W) (Ring.sl 2 (k + 1))) := by
  unfold ringAt0_3; rw [if_pos hk]; exact Cert.RingSteps.first_open k hk
theorem ring3_first_close (c : Dev nD) (W : HbBuf0 (F := F) c hbM0_3) (k : ℕ) (hk : k = 0) :
    iprop(Ring.inflight (flightW0_3 c W) (Ring.sl 2 (k + 1)) (Ring.bk 32 (k + 1))
      ∗ Ring.kept (cellP0_3 c) (slotW0_3 c W) (landed0_3 c W) (Ring.sl 2 k) (Ring.bk 32 k)) ⊢ ringAt0_3 c W (k + 1) := by
  unfold ringAt0_3; rw [if_neg (Nat.succ_ne_zero k)]; exact Cert.RingSteps.first_close k hk
theorem ring3_mid_open (c : Dev nD) (W : HbBuf0 (F := F) c hbM0_3) (k : ℕ) (h : 1 ≤ k) (h' : k + 1 < 32) :
    ringAt0_3 c W k ⊢ iprop(Ring.inflight (flightW0_3 c W) (Ring.sl 2 k) (Ring.bk 32 k)
      ∗ Ring.kept (cellP0_3 c) (slotW0_3 c W) (landed0_3 c W) (Ring.sl 2 (k + 1)) (Ring.bk 32 (k - 1))) := by
  unfold ringAt0_3; rw [if_neg (by omega)]; exact Cert.RingSteps.mid_open k h h'
theorem ring3_mid_close (c : Dev nD) (W : HbBuf0 (F := F) c hbM0_3) (k : ℕ) (h : 1 ≤ k) (h' : k + 1 < 32) :
    iprop(Ring.inflight (flightW0_3 c W) (Ring.sl 2 (k + 1)) (Ring.bk 32 (k + 1))
      ∗ Ring.kept (cellP0_3 c) (slotW0_3 c W) (landed0_3 c W) (Ring.sl 2 k) (Ring.bk 32 k)) ⊢ ringAt0_3 c W (k + 1) := by
  unfold ringAt0_3; rw [if_neg (Nat.succ_ne_zero k)]; exact Cert.RingSteps.mid_close k h h'
theorem ring3_last_open (c : Dev nD) (W : HbBuf0 (F := F) c hbM0_3) (k : ℕ) (h : 1 ≤ k) (h' : k + 1 = 32) :
    ringAt0_3 c W k ⊢ iprop(Ring.inflight (flightW0_3 c W) (Ring.sl 2 k) (Ring.bk 32 k)
      ∗ Ring.kept (cellP0_3 c) (slotW0_3 c W) (landed0_3 c W) (Ring.sl 2 (k + 1)) (Ring.bk 32 (k - 1))) := by
  unfold ringAt0_3; rw [if_neg (by omega)]; exact Cert.RingSteps.last_open k h h'
theorem ring3_last_close (c : Dev nD) (W : HbBuf0 (F := F) c hbM0_3) (k : ℕ) (h : 1 ≤ k) (h' : k + 1 = 32) :
    iprop(Ring.kept (cellP0_3 c) (slotW0_3 c W) (landed0_3 c W) (Ring.sl 2 (k + 1)) (Ring.bk 32 (k - 1))
      ∗ Ring.kept (cellP0_3 c) (slotW0_3 c W) (landed0_3 c W) (Ring.sl 2 k) (Ring.bk 32 k)) ⊢ ringAt0_3 c W (k + 1) := by
  unfold ringAt0_3; rw [if_neg (Nat.succ_ne_zero k)]; exact Cert.RingSteps.last_close k h h'

/-- What the body takes at point `t`, -/
def stepIn (c : Dev nD) (t : Fin cfg0.N) : sProp 𝕄 :=
  iprop(held m c t.val ∗ (∃ W, owes (c : Thread nD τ) 0 W) ∗ (∃ d, owns (c : Thread nD τ) (ms0_0 t) fullShare d))

/-- and what it gives back. -/
def stepOut (c : Dev nD) (t : Fin cfg0.N) : sProp 𝕄 :=
  iprop(held m c (t.val + 1) ∗ (∃ W, owes (c : Thread nD τ) 0 W) ∗ owns (c : Thread nD τ) (ms0_0 t) fullShare (outAt m c t))

/-- The staging buffer with the point's pieces written holds `outAt`. -/
theorem owns_stored (c : Dev nD) (t : Fin cfg0.N) :
    iprop(∃ f, (ms0_0 t).view.loc (c : Thread nD τ) ↦[(ms0_0 t).view.set]{fullShare}
        (ms0_0 t).view.writes (Elt F) f (stored c t (V m c main_arg0) (V m c main_arg1) (V m c main_arg2) (V m c main_arg3)))
      ⊢ (owns (c : Thread nD τ) (ms0_0 t) fullShare (outAt m c t) : sProp 𝕄) := by
  iintro ⟨%f, H⟩
  unfold owns; iexists _; isplitr
  swap; · iexact H
  ipureintro; exact View.read_writes_of_cover _ _ _ _ _ (stored_cover c t _ _ _ _)

set_option maxHeartbeats 1000000 in
/-- The body's triple at a point that starts its own block and the next. -/
theorem body_first (c : Dev nD) (t : Fin cfg0.N) (h0 : t.val % 32 = 0) (h1 : t.val < 31) :
    stepIn m c t ⊢ wp frame (wpE (defs₀ (F := F)) Variants.none c none) Set.univ (bodyAt0 t) (fun _ => stepOut m c t) := by
  have hN : t.val < 32 := lt_of_lt_of_eq t.isLt (show cfg0.N = 32 from N_0)
  have hk : t.val = 0 := by omega
  have hrun := (kernelRun0_A c t (ms0_0 t) (hs0_0 t) ((hcond0_0 t).mpr h0) ((hcond0_1 t).mpr h1) (V m c main_arg0) (V m c main_arg1) (V m c main_arg2) (V m c main_arg3)).2
  rw [pieces_first c t (ms0_0 t) (hs0_0 t) ((hcond0_0 t).mpr h0) ((hcond0_1 t).mpr h1) (V m c main_arg0) (V m c main_arg1) (V m c main_arg2) (V m c main_arg3)] at hrun
  unfold stepIn stepOut held bodyAt0
  iintro ⟨⟨Hg, HR0, HR1, HR2, HR3⟩, ⟨%W, HW⟩, ⟨%d, H⟩⟩
  ihave HX0 := (ring0_first_open c (V m c main_arg0) t.val hk) $$ HR0
  icases HX0 with ⟨Ha0, Hb0⟩
  ihave HX1 := (ring1_first_open c (V m c main_arg1) t.val hk) $$ HR1
  icases HX1 with ⟨Ha1, Hb1⟩
  ihave HX2 := (ring2_first_open c (V m c main_arg2) t.val hk) $$ HR2
  icases HX2 with ⟨Ha2, Hb2⟩
  ihave HX3 := (ring3_first_open c (V m c main_arg3) t.val hk) $$ HR3
  icases HX3 with ⟨Ha3, Hb3⟩
  iapply (hrun W _)
  isplitl [H]; · iexists _; iexact H
  isplitl [Ha0]; · iexact Ha0
  isplitl [Hb0]; · iexact Hb0
  isplitl [Ha1]; · iexact Ha1
  isplitl [Hb1]; · iexact Hb1
  isplitl [Ha2]; · iexact Ha2
  isplitl [Hb2]; · iexact Hb2
  isplitl [Ha3]; · iexact Ha3
  isplitl [Hb3]; · iexact Hb3
  isplitl [HW]; · iexact HW
  iintro ⟨H, Hc0, Hd0, Hc1, Hd1, Hc2, Hd2, Hc3, Hd3, HW⟩
  isplitl [Hg Hc0 Hd0 Hc1 Hd1 Hc2 Hd2 Hc3 Hd3]
  · isplitl [Hg]; · iexact Hg
    isplitl [Hc0 Hd0]
    · iapply (ring0_first_close c (V m c main_arg0) t.val hk)
      isplitl [Hc0]; · iexact Hc0
      iexact Hd0
    isplitl [Hc1 Hd1]
    · iapply (ring1_first_close c (V m c main_arg1) t.val hk)
      isplitl [Hc1]; · iexact Hc1
      iexact Hd1
    isplitl [Hc2 Hd2]
    · iapply (ring2_first_close c (V m c main_arg2) t.val hk)
      isplitl [Hc2]; · iexact Hc2
      iexact Hd2
    iapply (ring3_first_close c (V m c main_arg3) t.val hk)
    isplitl [Hc3]; · iexact Hc3
    iexact Hd3
  isplitl [HW]; · iexact HW
  iapply (owns_stored m c t); iexact H

set_option maxHeartbeats 1000000 in
/-- The body's triple at a point that starts the next block. -/
theorem body_mid (c : Dev nD) (t : Fin cfg0.N) (h0 : ¬t.val % 32 = 0) (h1 : t.val < 31) :
    stepIn m c t ⊢ wp frame (wpE (defs₀ (F := F)) Variants.none c none) Set.univ (bodyAt0 t) (fun _ => stepOut m c t) := by
  have hN : t.val < 32 := lt_of_lt_of_eq t.isLt (show cfg0.N = 32 from N_0)
  have hk : 1 ≤ t.val := by omega
  have hk' : t.val + 1 < 32 := by omega
  have hrun := (kernelRun0_B c t (ms0_0 t) (hs0_0 t) (fun h => h0 ((hcond0_0 t).mp h)) ((hcond0_1 t).mpr h1) (V m c main_arg0) (V m c main_arg1) (V m c main_arg2) (V m c main_arg3)).2
  rw [pieces_mid c t (ms0_0 t) (hs0_0 t) (fun h => h0 ((hcond0_0 t).mp h)) ((hcond0_1 t).mpr h1) (V m c main_arg0) (V m c main_arg1) (V m c main_arg2) (V m c main_arg3)] at hrun
  unfold stepIn stepOut held bodyAt0
  iintro ⟨⟨Hg, HR0, HR1, HR2, HR3⟩, ⟨%W, HW⟩, ⟨%d, H⟩⟩
  ihave HX0 := (ring0_mid_open c (V m c main_arg0) t.val hk hk') $$ HR0
  icases HX0 with ⟨Ha0, Hb0⟩
  ihave HX1 := (ring1_mid_open c (V m c main_arg1) t.val hk hk') $$ HR1
  icases HX1 with ⟨Ha1, Hb1⟩
  ihave HX2 := (ring2_mid_open c (V m c main_arg2) t.val hk hk') $$ HR2
  icases HX2 with ⟨Ha2, Hb2⟩
  ihave HX3 := (ring3_mid_open c (V m c main_arg3) t.val hk hk') $$ HR3
  icases HX3 with ⟨Ha3, Hb3⟩
  iapply (hrun W _)
  isplitl [H]; · iexists _; iexact H
  isplitl [Ha0]; · iexact Ha0
  isplitl [Hb0]; · iexact Hb0
  isplitl [Ha1]; · iexact Ha1
  isplitl [Hb1]; · iexact Hb1
  isplitl [Ha2]; · iexact Ha2
  isplitl [Hb2]; · iexact Hb2
  isplitl [Ha3]; · iexact Ha3
  isplitl [Hb3]; · iexact Hb3
  isplitl [HW]; · iexact HW
  iintro ⟨H, Hc0, Hd0, Hc1, Hd1, Hc2, Hd2, Hc3, Hd3, HW⟩
  isplitl [Hg Hc0 Hd0 Hc1 Hd1 Hc2 Hd2 Hc3 Hd3]
  · isplitl [Hg]; · iexact Hg
    isplitl [Hc0 Hd0]
    · iapply (ring0_mid_close c (V m c main_arg0) t.val hk hk')
      isplitl [Hc0]; · iexact Hc0
      iexact Hd0
    isplitl [Hc1 Hd1]
    · iapply (ring1_mid_close c (V m c main_arg1) t.val hk hk')
      isplitl [Hc1]; · iexact Hc1
      iexact Hd1
    isplitl [Hc2 Hd2]
    · iapply (ring2_mid_close c (V m c main_arg2) t.val hk hk')
      isplitl [Hc2]; · iexact Hc2
      iexact Hd2
    iapply (ring3_mid_close c (V m c main_arg3) t.val hk hk')
    isplitl [Hc3]; · iexact Hc3
    iexact Hd3
  isplitl [HW]; · iexact HW
  iapply (owns_stored m c t); iexact H

set_option maxHeartbeats 1000000 in
/-- The body's triple at the last point, which starts none. -/
theorem body_last (c : Dev nD) (t : Fin cfg0.N) (h0 : ¬t.val % 32 = 0) (h1 : ¬t.val < 31) :
    stepIn m c t ⊢ wp frame (wpE (defs₀ (F := F)) Variants.none c none) Set.univ (bodyAt0 t) (fun _ => stepOut m c t) := by
  have hN : t.val < 32 := lt_of_lt_of_eq t.isLt (show cfg0.N = 32 from N_0)
  have hk : 1 ≤ t.val := by omega
  have hk' : t.val + 1 = 32 := by omega
  have hrun := (kernelRun0_C c t (ms0_0 t) (hs0_0 t) (fun h => h0 ((hcond0_0 t).mp h)) (fun h => h1 ((hcond0_1 t).mp h)) (V m c main_arg0) (V m c main_arg1) (V m c main_arg2) (V m c main_arg3)).2
  rw [pieces_last c t (ms0_0 t) (hs0_0 t) (fun h => h0 ((hcond0_0 t).mp h)) (fun h => h1 ((hcond0_1 t).mp h)) (V m c main_arg0) (V m c main_arg1) (V m c main_arg2) (V m c main_arg3)] at hrun
  unfold stepIn stepOut held bodyAt0
  iintro ⟨⟨Hg, HR0, HR1, HR2, HR3⟩, ⟨%W, HW⟩, ⟨%d, H⟩⟩
  ihave HX0 := (ring0_last_open c (V m c main_arg0) t.val hk hk') $$ HR0
  icases HX0 with ⟨Ha0, Hb0⟩
  ihave HX1 := (ring1_last_open c (V m c main_arg1) t.val hk hk') $$ HR1
  icases HX1 with ⟨Ha1, Hb1⟩
  ihave HX2 := (ring2_last_open c (V m c main_arg2) t.val hk hk') $$ HR2
  icases HX2 with ⟨Ha2, Hb2⟩
  ihave HX3 := (ring3_last_open c (V m c main_arg3) t.val hk hk') $$ HR3
  icases HX3 with ⟨Ha3, Hb3⟩
  iapply (hrun W _)
  isplitl [H]; · iexists _; iexact H
  isplitl [Ha0]; · iexact Ha0
  isplitl [Ha1]; · iexact Ha1
  isplitl [Ha2]; · iexact Ha2
  isplitl [Ha3]; · iexact Ha3
  isplitl [HW]; · iexact HW
  iintro ⟨H, Hd0, Hd1, Hd2, Hd3, HW⟩
  isplitl [Hg Hb0 Hd0 Hb1 Hd1 Hb2 Hd2 Hb3 Hd3]
  · isplitl [Hg]; · iexact Hg
    isplitl [Hb0 Hd0]
    · iapply (ring0_last_close c (V m c main_arg0) t.val hk hk')
      isplitl [Hb0]; · iexact Hb0
      iexact Hd0
    isplitl [Hb1 Hd1]
    · iapply (ring1_last_close c (V m c main_arg1) t.val hk hk')
      isplitl [Hb1]; · iexact Hb1
      iexact Hd1
    isplitl [Hb2 Hd2]
    · iapply (ring2_last_close c (V m c main_arg2) t.val hk hk')
      isplitl [Hb2]; · iexact Hb2
      iexact Hd2
    iapply (ring3_last_close c (V m c main_arg3) t.val hk hk')
    isplitl [Hb3]; · iexact Hb3
    iexact Hd3
  isplitl [HW]; · iexact HW
  iapply (owns_stored m c t); iexact H

/-- The body's triple at any point. -/
theorem body_point (c : Dev nD) (t : Fin cfg0.N) :
    stepIn m c t ⊢ wp frame (wpE (defs₀ (F := F)) Variants.none c none) Set.univ (bodyAt0 t) (fun _ => stepOut m c t) := by
  have hN : t.val < 32 := lt_of_lt_of_eq t.isLt (show cfg0.N = 32 from N_0)
  by_cases h0 : t.val % 32 = 0
  · exact body_first m c t h0 (by omega)
  · by_cases h1 : t.val < 31
    · exact body_mid m c t h0 h1
    · exact body_last m c t h0 h1

/-- The same, in the words of the pipeline. -/
theorem body_pipeline (c : Dev nD) (t : Fin cfg0.N) :
    iprop((dats m 0 c).Φ t.castSucc ∗ (dats m 0 c).owesAt () t.castSucc
        ∗ (∃ d, owns (c : Thread nD τ) (ms0_0 t) fullShare ((dats m 0 c).before 0 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (ms0_0 t) fullShare ((dats m 0 c).after 0 t))) := by
  rw [dats_after, dats_before, dats_next]
  unfold Dat.owesAt Pipeline.owesWithin
  rw [show (dats m 0 c).owed t.castSucc = 0 from rfl, show (dats m 0 c).owed t.succ = 0 from rfl]
  refine triple_restated (body_point m c t) rfl ?_ fun _ => ?_
  · unfold stepIn
    iintro ⟨Hh, ⟨%W, -, HW⟩, ⟨%d, H⟩⟩
    isplitl [Hh]; · iexact Hh
    isplitl [HW]; · iexists W; iexact HW
    iexists _; iexact H
  · unfold stepOut
    iintro ⟨Hh, ⟨%W, HW⟩, H⟩
    isplitl [Hh]; · iexact Hh
    isplitl [HW]
    · iexists W; isplitr; · ipureintro; exact fun _ _ => Or.inl trivial
      iexact HW
    iexact H

/-- The row of the body table at point `t` is the body. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_pipeline m c t) rfl .rfl fun _ => .rfl

/-! ## The launch -/

/-- What the region is entered with is what is held before the first step. -/
theorem enter (c : Dev nD) : Pipeline.ΦD osem0 spec0 H0 (V m) c ⊢ (dats m 0 c).Φ 0 := by
  rw [PhiD0_eq, show (dats m 0 c).Φ 0 = held m c 0 from rfl]
  unfold held
  iintro ⟨⟨HS0, HS1, HS2, HS3⟩, Hg, ⟨Hq0, Hq1, Hq2, Hq3, Hq4, Hq5, Hq6, Hq7⟩, ⟨Hh0, Hh1, Hh2, Hh3⟩⟩
  isplitl [Hg]; · iexact Hg
  isplitl [HS0 Hq0 Hq1 Hh0]
  · iapply (ring0_0_in (F := F) m c)
    isplitl [HS0]; · iexact HS0
    isplitl [Hq0 Hq1]
    · isplitl [Hq0]; · iexact Hq0
      iexact Hq1
    iexact Hh0
  isplitl [HS1 Hq2 Hq3 Hh1]
  · iapply (ring0_1_in (F := F) m c)
    isplitl [HS1]; · iexact HS1
    isplitl [Hq2 Hq3]
    · isplitl [Hq2]; · iexact Hq2
      iexact Hq3
    iexact Hh1
  isplitl [HS2 Hq4 Hq5 Hh2]
  · iapply (ring0_2_in (F := F) m c)
    isplitl [HS2]; · iexact HS2
    isplitl [Hq4 Hq5]
    · isplitl [Hq4]; · iexact Hq4
      iexact Hq5
    iexact Hh2
  iapply (ring0_3_in (F := F) m c)
  isplitl [HS3]; · iexact HS3
  isplitl [Hq6 Hq7]
  · isplitl [Hq6]; · iexact Hq6
    iexact Hq7
  iexact Hh3

/-- What is held after the last step is what the region is left with. -/
theorem leave (c : Dev nD) : (dats m 0 c).Φ (Fin.last cfg0.N) ⊢ Pipeline.ΦD osem0 spec0 H0 (V m) c := by
  rw [PhiD0_eq, show (dats m 0 c).Φ (Fin.last cfg0.N) = held m c grid0.N from rfl, show grid0.N = 32 by rw [N_0]]
  unfold held
  iintro ⟨Hg, HR0, HR1, HR2, HR3⟩
  ihave HX0 := (ring0_0_out (F := F) m c) $$ HR0
  icases HX0 with ⟨HS0, ⟨Hq0, Hq1⟩, Hh0⟩
  ihave HX1 := (ring0_1_out (F := F) m c) $$ HR1
  icases HX1 with ⟨HS1, ⟨Hq2, Hq3⟩, Hh1⟩
  ihave HX2 := (ring0_2_out (F := F) m c) $$ HR2
  icases HX2 with ⟨HS2, ⟨Hq4, Hq5⟩, Hh2⟩
  ihave HX3 := (ring0_3_out (F := F) m c) $$ HR3
  icases HX3 with ⟨HS3, ⟨Hq6, Hq7⟩, Hh3⟩
  isplitl [HS0 HS1 HS2 HS3]
  · isplitl [HS0]; · iexact HS0
    isplitl [HS1]; · iexact HS1
    isplitl [HS2]; · iexact HS2
    iexact HS3
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  isplitl [Hh1]; · iexact Hh1
  isplitl [Hh2]; · iexact Hh2
  iexact Hh3

set_option backward.isDefEq.respectTransparency.types false in
set_option maxHeartbeats 800000 in
/-- The run: every array of the pipeline ends at what the proof data gives, every other buffer as the lines after the
    region leave it, and every semaphore counter is at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := dats_A m) (hin := enter m) (hout := leave m)

/-- The run without the counters. -/
theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) (run_post m ρ)) ((θ_run defs _ _).mono (fun _ h => h.2) (run_quiescent m ρ))

end Cert.KernelIdeal.Whole

end
-- ==== Proof.Rows.lean ====
/- One row of each model, over the extended reals: what the kernel and the reference each compute from the four rows.

   A row is its 1000 entries. Both programs take the exponentials of the entries less the row's maximum. The kernel
   divides the product of two rows of exponentials by the two lengths directly; the reference first divides each row
   by its sum, and divides by the larger of the two lengths' product and a small number. -/
module

public import Idealize.ShloMosaic.Lib.Pointwise

@[expose] public section

noncomputable section

namespace Cert.Rows

open Idealize.ShloMosaic

/-- A row's entries. -/
abbrev Row := Fin 1000 → EReal

/-- The pattern of minus infinity, from which a maximum starts. -/
def low : EReal := Ideal.ofBits .f32 0xFF800000#32
/-- The small number below which a product of lengths is not let fall. -/
def eps : EReal := Ideal.ofBits .f32 0x358637BD#32
/-- The number of rows, as the programs write it. -/
def count : EReal := Ideal.ofBits .f32 0x46800000#32

/-- A row's greatest entry. -/
def top (x : Row) : EReal := Finset.univ.fold max low x
/-- The exponential of an entry less the greatest. -/
def expo (x : Row) (k : Fin 1000) : EReal := Ideal.exp (x k - top x)
/-- The product of two rows of exponentials. -/
def cross (x y : Row) : EReal := ∑ k, expo x k * expo y k
/-- The kernel's similarity of two rows. -/
def kcos (x y : Row) : EReal := cross x y * Ideal.rsqrt (cross x x * cross y y)
/-- The kernel's greatest similarity. -/
def kmax (a b c d : Row) : EReal :=
  max (max (max (max (max (kcos a b) (kcos a c)) (kcos a d)) (kcos b c)) (kcos b d)) (kcos c d)
/-- The kernel's number for four rows. -/
def kloss (a b c d : Row) : EReal :=
  Ideal.log (Ideal.exp (kcos a b - kmax a b c d) + Ideal.exp (kcos a c - kmax a b c d) + Ideal.exp (kcos a d - kmax a b c d)
    + Ideal.exp (kcos b c - kmax a b c d) + Ideal.exp (kcos b d - kmax a b c d) + Ideal.exp (kcos c d - kmax a b c d))
    + kmax a b c d

/-- The reference's exponentials: its maximum is taken against minus infinity once more. -/
def rexpo (x : Row) (k : Fin 1000) : EReal := Ideal.exp (x k - max low (top x))
/-- The reference's row divided by its sum. -/
def prob (x : Row) (k : Fin 1000) : EReal := Ideal.div (rexpo x k) (∑ l, rexpo x l)
/-- The product of two such rows. -/
def rdot (x y : Row) : EReal := ∑ k, prob x k * prob y k
/-- The reference's similarity of two rows. -/
def rcos (x y : Row) : EReal := Ideal.div (rdot x y) (max (Ideal.sqrt (rdot x x) * Ideal.sqrt (rdot y y)) eps)
/-- The two models of each of the six pairs. -/
def pairFst : Fin 6 → Fin 4 := ![0, 0, 0, 1, 1, 2]
def pairSnd : Fin 6 → Fin 4 := ![1, 2, 3, 2, 3, 3]
/-- The reference's number for four rows. -/
def rloss (x : Fin 4 → Row) : EReal := Ideal.log (∑ p : Fin 6, Ideal.exp (rcos (x (pairFst p)) (x (pairSnd p))))

end Cert.Rows

end
-- ==== Proof.KernelRows.lean ====
/- What a grid point stores, read over the extended reals: the sum, over the 512 rows of its four blocks, of the
   kernel's number for the four rows. -/
module

public import proofs.«01_k».proof.Proof.IdealFrame
public import proofs.«01_k».proof.Proof.Rows

@[expose] public section

set_option maxRecDepth 16384

noncomputable section

namespace Cert.KernelIdeal.Whole

open Cert.KernelIdeal Cert.KernelIdeal.Gen Cert.Rows
open Idealize.ShloMosaic Idealize.ShloMosaic.TcCoe

/-- Row `r` of a block. -/
def rowOf (x : FVec Ideal S1x512x1000 .f32) (r : Fin 512) : Row := fun k => x (ix3 0 r k)

section
variable (x y z w : FVec Ideal S1x512x1000 .f32) (r : Fin 512) (k : Fin 1000)

theorem expo0 : k0_pay2 (F := Ideal) x (ix2 r k) = expo (rowOf x r) k := by pointwise [k0_pay2, expo, top, low, rowOf]
theorem expo1 : k0_pay4 (F := Ideal) x (ix2 r k) = expo (rowOf x r) k := by pointwise [k0_pay4, expo, top, low, rowOf]
theorem expo2 : k0_pay6 (F := Ideal) x (ix2 r k) = expo (rowOf x r) k := by pointwise [k0_pay6, expo, top, low, rowOf]
theorem expo3 : k0_pay8 (F := Ideal) x (ix2 r k) = expo (rowOf x r) k := by pointwise [k0_pay8, expo, top, low, rowOf]

theorem square0 : k0_pay3 (F := Ideal) x (ix1 r) = cross (rowOf x r) (rowOf x r) := by pointwise [k0_pay3, cross, expo0]
theorem square1 : k0_pay5 (F := Ideal) x (ix1 r) = cross (rowOf x r) (rowOf x r) := by pointwise [k0_pay5, cross, expo1]
theorem square2 : k0_pay7 (F := Ideal) x (ix1 r) = cross (rowOf x r) (rowOf x r) := by pointwise [k0_pay7, cross, expo2]
theorem square3 : k0_pay9 (F := Ideal) (k0_pay8 x) (ix1 r) = cross (rowOf x r) (rowOf x r) := by pointwise [k0_pay9, cross, expo3]

theorem cos01 : k0_pay10 (F := Ideal) (k0_pay2 x) (k0_pay3 x) (k0_pay4 y) (k0_pay5 y) (ix1 r) = kcos (rowOf x r) (rowOf y r) := by
  pointwise [k0_pay10, kcos, square0, square1, expo0, expo1, cross]
theorem cos02 : k0_pay11 (F := Ideal) (k0_pay2 x) (k0_pay3 x) (k0_pay6 z) (k0_pay7 z) (ix1 r) = kcos (rowOf x r) (rowOf z r) := by
  pointwise [k0_pay11, kcos, square0, square2, expo0, expo2, cross]
theorem cos03 : k0_pay12 (F := Ideal) (k0_pay2 x) (k0_pay3 x) (k0_pay8 w) (ix1 r) = kcos (rowOf x r) (rowOf w r) := by
  pointwise [k0_pay12, kcos, square0, square3, expo0, expo3, cross]
theorem cos12 : k0_pay13 (F := Ideal) (k0_pay4 y) (k0_pay5 y) (k0_pay6 z) (k0_pay7 z) (ix1 r) = kcos (rowOf y r) (rowOf z r) := by
  pointwise [k0_pay13, kcos, square1, square2, expo1, expo2, cross]
theorem cos13 : k0_pay14 (F := Ideal) (k0_pay4 y) (k0_pay5 y) (k0_pay8 w) (ix1 r) = kcos (rowOf y r) (rowOf w r) := by
  pointwise [k0_pay14, kcos, square1, square3, expo1, expo3, cross]
theorem cos23 : k0_pay15 (F := Ideal) (k0_pay6 z) (k0_pay7 z) (k0_pay8 w) (ix1 r) = kcos (rowOf z r) (rowOf w r) := by
  pointwise [k0_pay15, kcos, square2, square3, expo2, expo3, cross]

theorem greatest : k0_pay16 (F := Ideal) (k0_pay2 x) (k0_pay3 x) (k0_pay4 y) (k0_pay5 y) (k0_pay6 z) (k0_pay7 z) (k0_pay8 w) (ix1 r)
    = kmax (rowOf x r) (rowOf y r) (rowOf z r) (rowOf w r) := by
  pointwise [k0_pay16, kmax, cos01, cos02, cos03, cos12, cos13, cos23]
end

/-- A point's number: the sum over its 512 rows. -/
theorem blockLoss_rows (x y z w : FVec Ideal S1x512x1000 .f32) (j : S1x1x1.Idx) :
    blockLoss (F := Ideal) x y z w j = ∑ r : Fin 512, kloss (rowOf x r) (rowOf y r) (rowOf z r) (rowOf w r) := by
  unfold blockLoss
  pointwise [k0_pay1, k0_pay17, k0_pay18, kloss, greatest, cos01, cos02, cos03, cos12, cos13, cos23]

end Cert.KernelIdeal.Whole

end
-- ==== Proof.KernelArray.lean ====
/- The array the pipeline leaves: entry `t` is the sum, over rows `512 t` to `512 t + 511` of the operands, of the
   kernel's number for the four rows. -/
module

public import proofs.«01_k».proof.Proof.KernelRows
public import Idealize.ShloMosaic.Lib.Pipeline.ValueKit

@[expose] public section

set_option maxRecDepth 16384

noncomputable section

namespace Cert.KernelIdeal.Whole

open Cert.KernelIdeal Cert.KernelIdeal.Gen Cert.Rows
open Idealize.ShloMosaic Idealize.ShloMosaic.TcCoe
open Idealize.ShloMosaic.Pipeline (Dat)

/-- Row `n` of an operand. -/
def argRow (a : FVec Ideal S16384x1000 .f32) (n : Fin 16384) : Row := fun k => a (ix2 n k)

/-- Row `r` of block `t`. -/
def rowNo (t : Fin 32) (r : Fin 512) : Fin 16384 := ⟨512 * t.val + r.val, by omega⟩

theorem block_row (t : Fin cfg0.N) : (Ring.bk 32 t.val).val = t.val := by
  have hN : t.val < 32 := lt_of_lt_of_eq t.isLt (show cfg0.N = 32 from N_0)
  show t.val % 32 = t.val
  omega

theorem slab_cast (v : FVec Ideal S512x1000 .f32) (r : Fin 512) (k : Fin 1000) :
    shapeCast S1x512x1000 v block_casts (ix3 0 r k) = v (ix2 r k) := by pointwise

variable (m : (ℓ : Loc nD τ sig) → Buf (Elt Ideal) ℓ) (c : Dev nD) (t : Fin cfg0.N) (r : Fin 512)

theorem point_lt : t.val < 32 := lt_of_lt_of_eq t.isLt (show cfg0.N = 32 from N_0)

theorem slab0_row (a : FVec Ideal S16384x1000 .f32) : rowOf (slab0 (F := Ideal) c t a) r = argRow a (rowNo ⟨t.val, point_lt t⟩ r) := by
  funext k
  refine (slab_cast _ r k).trans (congrArg a (funext fun (i : Fin 2) => Fin.ext ?_))
  match i with
  | 0 =>
    show 512 * (Ring.bk 32 t.val).val + 1 * r.val = 512 * t.val + r.val
    rw [block_row]; omega
  | 1 =>
    show 0 + 1 * k.val = k.val
    omega

theorem slab1_row (a : FVec Ideal S16384x1000 .f32) : rowOf (slab1 (F := Ideal) c t a) r = argRow a (rowNo ⟨t.val, point_lt t⟩ r) := by
  funext k
  refine (slab_cast _ r k).trans (congrArg a (funext fun (i : Fin 2) => Fin.ext ?_))
  match i with
  | 0 =>
    show 512 * (Ring.bk 32 t.val).val + 1 * r.val = 512 * t.val + r.val
    rw [block_row]; omega
  | 1 =>
    show 0 + 1 * k.val = k.val
    omega

theorem slab2_row (a : FVec Ideal S16384x1000 .f32) : rowOf (slab2 (F := Ideal) c t a) r = argRow a (rowNo ⟨t.val, point_lt t⟩ r) := by
  funext k
  refine (slab_cast _ r k).trans (congrArg a (funext fun (i : Fin 2) => Fin.ext ?_))
  match i with
  | 0 =>
    show 512 * (Ring.bk 32 t.val).val + 1 * r.val = 512 * t.val + r.val
    rw [block_row]; omega
  | 1 =>
    show 0 + 1 * k.val = k.val
    omega

theorem slab3_row (a : FVec Ideal S16384x1000 .f32) : rowOf (slab3 (F := Ideal) c t a) r = argRow a (rowNo ⟨t.val, point_lt t⟩ r) := by
  funext k
  refine (slab_cast _ r k).trans (congrArg a (funext fun (i : Fin 2) => Fin.ext ?_))
  match i with
  | 0 =>
    show 512 * (Ring.bk 32 t.val).val + 1 * r.val = 512 * t.val + r.val
    rw [block_row]; omega
  | 1 =>
    show 0 + 1 * k.val = k.val
    omega

/-- The four operands. -/
abbrev A0 : FVec Ideal S16384x1000 .f32 := m ((c.tc : Thread nD τ).loc main_arg0)
abbrev A1 : FVec Ideal S16384x1000 .f32 := m ((c.tc : Thread nD τ).loc main_arg1)
abbrev A2 : FVec Ideal S16384x1000 .f32 := m ((c.tc : Thread nD τ).loc main_arg2)
abbrev A3 : FVec Ideal S16384x1000 .f32 := m ((c.tc : Thread nD τ).loc main_arg3)

/-- The kernel's number for row `n` of four arrays. -/
def lossAt (a b c d : FVec Ideal S16384x1000 .f32) (n : Fin 16384) : EReal := kloss (argRow a n) (argRow b n) (argRow c n) (argRow d n)

/-- What point `t` leaves in the output's staging buffer. -/
theorem outAt_rows (j : S1x1x1.Idx) :
    outAt m c t j = ∑ r : Fin 512, lossAt (A0 m c) (A1 m c) (A2 m c) (A3 m c) (rowNo ⟨t.val, point_lt t⟩ r) := by
  have h : outAt m c t = blockLoss (slab0 c t (V m c main_arg0)) (slab1 c t (V m c main_arg1)) (slab2 c t (V m c main_arg2))
      (slab3 c t (V m c main_arg3)) := by
    unfold outAt stored
    exact View.read_writes_full VO0_0 _ (off := ![0, 0, 0]) (by intro a; fin_cases a <;> decide) _ []
  rw [h, blockLoss_rows]
  refine Finset.sum_congr rfl fun r _ => ?_
  rw [V_main_arg0, V_main_arg1, V_main_arg2, V_main_arg3, slab0_row, slab1_row, slab2_row, slab3_row]
  rfl

/-- The array after the region. -/
def sums (c : Dev nD) : FVec Ideal S32x1x1 .f32 := fun i =>
  ∑ r : Fin 512, lossAt (A0 m c) (A1 m c) (A2 m c) (A3 m c) (rowNo (i 0) r)

theorem index_eq : ∀ t : Fin cfg0.N, win0_0.index t = ![t.val, 0, 0] :=
  (by decide +kernel : ∀ t : Fin grid0.N, win0_0.index t = ![t.val, 0, 0])

theorem outAt_sums (j : S1x1x1.Idx) (i : S32x1x1.Idx) (h : (i 0).val = t.val) : outAt m c t j = sums m c i := by
  rw [outAt_rows]
  unfold sums
  exact Finset.sum_congr rfl fun r _ => congrArg (lossAt (A0 m c) (A1 m c) (A2 m c) (A3 m c)) (Fin.ext (by
    show 512 * t.val + r.val = 512 * (i 0).val + r.val
    rw [h]))

theorem array_final : (dats m 0 c).arrAt 0 cfg0.N = sums m c := by
  refine (dats m 0 c).arrAt_eq_of_covers 0 (sums m c) (by decide +kernel) fun t _ y => ?_
  blk_simp
  rw [dats_after]
  refine outAt_sums m c t _ _ ?_
  blk_simp [index_eq t]

end Cert.KernelIdeal.Whole

end
-- ==== Proof.KernelRun.lean ====
/- The kernel's result: the mean, over the 16384 rows, of the kernel's number for the four operands' rows. -/
module

public import proofs.«01_k».proof.Proof.KernelArray
public import Idealize.ShloMosaic.Lib.Pipeline.FrameTail

@[expose] public section

set_option maxRecDepth 16384

noncomputable section

namespace Cert.KernelIdeal.Whole

open Cert.KernelIdeal Cert.KernelIdeal.Gen Cert.Rows
open Idealize.ShloMosaic Idealize.ShloMosaic.TcCoe
open Idealize.SL.Sem
open Idealize.ShloMosaic.Pipeline (Dat)

/-- The two lines after the region: the sum of the array, over the number of rows. -/
def meanOf (s : FVec Ideal S32x1x1 .f32) : FVec Ideal S_ .f32 :=
  Host.divf (Host.reduceAdd s (constant S_ .f32 0x00000000#32) reducesTo_S32x1x1_S_d0_1_2 h_S_) (constant S_ .f32 0x46800000#32)

theorem meanOf_at (s : FVec Ideal S32x1x1 .f32) (j : S_.Idx) :
    meanOf s j = Ideal.div (∑ t : Fin 32, s (ix3 t 0 0)) Cert.Rows.count := by
  pointwise [meanOf, Cert.Rows.count]
  simp only [Fin.sum_univ_one]

variable (m : (ℓ : Loc nD τ sig) → Buf (Elt Ideal) ℓ) (ρ : Dev nD → PrngReg) (c : Dev nD)

/-- What the lines after the region leave in the result's buffer. -/
theorem result_tail : Pipeline.afterTail₀ cfgs (dats m) 0 (V0 m) [hostOps1] c main_v2 = meanOf (sums m c) := by
  unfold Pipeline.afterTail₀
  simp only [List.flatten_cons, List.flatten_nil, List.append_nil]
  after_region_results
  have h : Pipeline.withArrays (cfgs 0).spec c (V0 m c) (fun w => (dats m 0 c).arrAt w (cfgs 0).N) (Proc.tc.devRef main_v0) = sums m c :=
    (Pipeline.withArrays_arr spec0 launch0.win.arr_inj c (V0 m c) _ (0 : Fin 1)).trans (array_final m c)
  exact congrArg meanOf h

/-- The sum over the blocks of the sums over their rows is the sum over all rows. -/
theorem meanOf_sums (j : S_.Idx) :
    meanOf (sums m c) j = Ideal.div (∑ n : Fin 16384, lossAt (A0 m c) (A1 m c) (A2 m c) (A3 m c) n) Cert.Rows.count := by
  have h := Fin.sum_univ_tiles 32 512 (N := 16384) (by norm_num) (fun n => lossAt (A0 m c) (A1 m c) (A2 m c) (A3 m c) n)
  rw [meanOf_at, h]
  refine congrArg (Ideal.div · Cert.Rows.count) (Finset.sum_congr rfl fun t _ => ?_)
  refine Finset.sum_congr rfl fun r _ => congrArg (lossAt (A0 m c) (A1 m c) (A2 m c) (A3 m c)) (Fin.ext ?_)
  exact congrArg (· + r.val) (Nat.mul_comm 512 t.val)

/-- The run: the result's buffer holds the mean, and the operands are unchanged. -/
theorem run_value : θ_run defs (onTc (τ := τ) (main (F := Ideal))) ⟨m, fun _ => 0, ρ⟩ (fun r => ∀ c : Dev nD,
      r.2.mem ((c.tc : Thread nD τ).loc main_v2) = meanOf (sums m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 (Pipeline.mem_restRefs_of main_v2 (by decide) (by decide))).trans (result_tail m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_post m ρ)

end Cert.KernelIdeal.Whole

end
-- ==== Proof.RowLaws.lean ====
/- The kernel's number for four rows is the reference's, whatever the rows hold.

   A row whose greatest entry is a real number has exponentials in [0, 1], one of them 1; so its sum lies in [1, 1000],
   its length is at least 1, and the product of two lengths, each over its row's sum, is at least a millionth: the
   reference's floor is never reached, and the two similarities are one real number. A row whose greatest entry is an
   infinity has every exponential 0; the kernel's similarity with it is 0 times something, and the reference's is
   something over plus infinity: both 0. So the six similarities are real, and taking the greatest out of the sum of
   exponentials and adding it back changes nothing. -/
module

public import proofs.«01_k».proof.Proof.Rows
public import Mathlib.Analysis.SpecialFunctions.Log.Basic

@[expose] public section

noncomputable section

namespace Cert.Rows

open Idealize.ShloMosaic

/-! ## The constants, and sums of reals -/

theorem low_eq : low = ⊥ := by
  unfold low
  simp [Ideal.ofBits, Ideal.ieee]

theorem eps_eq : eps = ((8796093 * (2 : ℝ) ^ (-43 : ℤ) : ℝ) : EReal) := by
  unfold eps
  simp [Ideal.ofBits, Ideal.ieee]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## A row's exponentials -/

/-- A row whose exponentials are reals in [0, 1], one of them 1. -/
structure Live (x : Row) (e : Fin 1000 → ℝ) : Prop where
  eq : ∀ k, expo x k = (e k : EReal)
  nonneg : ∀ k, 0 ≤ e k
  le : ∀ k, e k ≤ 1
  one : ∃ k, e k = 1

/-- A row whose exponentials are all 0. -/
def Dead (x : Row) : Prop := ∀ k, expo x k = 0

theorem top_sup (x : Row) : top x = Finset.univ.sup x := by unfold top; rw [low_eq]; rfl

theorem le_top' (x : Row) (k : Fin 1000) : x k ≤ top x := by rw [top_sup]; exact Finset.le_sup (Finset.mem_univ k)

theorem top_mem (x : Row) : ∃ k, top x = x k := by
  obtain ⟨k, -, h⟩ := Finset.exists_mem_eq_sup Finset.univ Finset.univ_nonempty x
  exact ⟨k, (top_sup x).trans h⟩

theorem live_or_dead (x : Row) : (∃ e, Live x e) ∨ Dead x := by
  rcases h : top x with _ | _ | r
  · refine .inr fun k => ?_
    have hk : x k = ⊥ := le_bot_iff.mp ((le_top' x k).trans_eq h)
    unfold expo
    rw [hk]
    simp only [sub_eq_add_neg, EReal.bot_add]
    rfl
  · refine .inr fun k => ?_
    unfold expo
    have h' : top x = ⊤ := h
    rw [h', EReal.sub_top]
    rfl
  · have h' : top x = ((r : ℝ) : EReal) := h
    refine .inl ⟨fun k => (Ideal.exp (x k - (r : EReal))).toReal, ?_⟩
    have key : ∀ k, ∃ y : ℝ, Ideal.exp (x k - (r : EReal)) = (y : EReal) ∧ 0 ≤ y ∧ y ≤ 1 := by
      intro k
      have hk := le_top' x k
      rw [h'] at hk
      rcases hx : x k with _ | _ | s
      · refine ⟨0, ?_, le_rfl, zero_le_one⟩
        show Ideal.exp ((⊥ : EReal) - (r : EReal)) = _
        simp only [sub_eq_add_neg, EReal.bot_add]
        rfl
      · rw [hx] at hk
        exact absurd hk (not_le.mpr (EReal.coe_lt_top r))
      · rw [hx] at hk
        have hs : s ≤ r := EReal.coe_le_coe_iff.mp hk
        exact ⟨Real.exp (s - r), rfl, (Real.exp_pos _).le, Real.exp_le_one_iff.mpr (by linarith)⟩
    refine ⟨fun k => ?_, fun k => ?_, fun k => ?_, ?_⟩
    · obtain ⟨y, hy, -, -⟩ := key k
      show Ideal.exp (x k - top x) = _
      rw [h', hy, EReal.toReal_coe]
    · obtain ⟨y, hy, h0, -⟩ := key k
      show 0 ≤ (Ideal.exp (x k - (r : EReal))).toReal
      rw [hy, EReal.toReal_coe]; exact h0
    · obtain ⟨y, hy, -, h1⟩ := key k
      show (Ideal.exp (x k - (r : EReal))).toReal ≤ 1
      rw [hy, EReal.toReal_coe]; exact h1
    · obtain ⟨k, hk⟩ := top_mem x
      refine ⟨k, ?_⟩
      show (Ideal.exp (x k - (r : EReal))).toReal = 1
      rw [← hk, h']
      show (Ideal.exp ((r - r : ℝ) : EReal)).toReal = 1
      rw [sub_self]
      show ((Real.exp 0 : ℝ) : EReal).toReal = 1
      rw [EReal.toReal_coe, Real.exp_zero]

theorem rexpo_eq (x : Row) (k : Fin 1000) : rexpo x k = expo x k := by
  unfold rexpo expo
  rw [low_eq, max_eq_right bot_le]

/-! ## The reals of a live row -/

section Live
variable {x y : Row} {e f : Fin 1000 → ℝ}

theorem Live.sum_ge (h : Live x e) : 1 ≤ ∑ k, e k := by
  obtain ⟨k, hk⟩ := h.one
  rw [← hk]
  exact Finset.single_le_sum (fun i _ => h.nonneg i) (Finset.mem_univ k)

theorem Live.sum_le (h : Live x e) : ∑ k, e k ≤ 1000 := by
  refine (Finset.sum_le_sum fun k _ => h.le k).trans ?_
  simp

theorem Live.square_ge (h : Live x e) : 1 ≤ ∑ k, e k * e k := by
  obtain ⟨k, hk⟩ := h.one
  have := Finset.single_le_sum (f := fun k => e k * e k) (fun i _ => mul_self_nonneg (e i)) (Finset.mem_univ k)
  simpa [hk] using this

theorem Live.cross_eq (h : Live x e) (g : Live y f) : cross x y = ((∑ k, e k * f k : ℝ) : EReal) := by
  unfold cross
  rw [← coe_sum]
  refine Finset.sum_congr rfl fun k _ => ?_
  rw [h.eq, g.eq, EReal.coe_mul]

theorem div_coe (a b : ℝ) (hb : b ≠ 0) : Ideal.div (a : EReal) (b : EReal) = ((a / b : ℝ) : EReal) := by
  unfold Ideal.div
  rw [if_neg (fun h => hb (EReal.coe_eq_zero.mp h)), div_eq_mul_inv, EReal.coe_mul, EReal.coe_inv]

theorem sqrt_coe (a : ℝ) (ha : 0 ≤ a) : Ideal.sqrt (a : EReal) = ((Real.sqrt a : ℝ) : EReal) := if_neg (not_lt.mpr ha)

theorem rsqrt_coe (a : ℝ) (ha : 0 < a) : Ideal.rsqrt (a : EReal) = (((Real.sqrt a)⁻¹ : ℝ) : EReal) :=
  (if_neg (not_lt.mpr ha.le)).trans (if_neg ha.ne')

theorem log_coe (a : ℝ) (ha : 0 < a) : Ideal.log (a : EReal) = ((Real.log a : ℝ) : EReal) := if_neg (not_le.mpr ha)

theorem exp_coe (a : ℝ) : Ideal.exp (a : EReal) = ((Real.exp a : ℝ) : EReal) := rfl

theorem Live.prob_eq (h : Live x e) (k : Fin 1000) : prob x k = ((e k / ∑ l, e l : ℝ) : EReal) := by
  unfold prob
  simp only [rexpo_eq, h.eq, coe_sum]
  exact div_coe _ _ (by have := h.sum_ge; linarith)

theorem Live.rdot_eq (h : Live x e) (g : Live y f) :
    rdot x y = (((∑ k, e k * f k) / ((∑ k, e k) * ∑ k, f k) : ℝ) : EReal) := by
  unfold rdot
  simp only [h.prob_eq, g.prob_eq, ← EReal.coe_mul, coe_sum]
  congr 1
  rw [Finset.sum_div]
  exact Finset.sum_congr rfl fun k _ => div_mul_div_comm _ _ _ _

/-- A live row's length over its sum. -/
theorem Live.length_eq (h : Live x e) :
    Ideal.sqrt (rdot x x) = ((Real.sqrt (∑ k, e k * e k) / ∑ k, e k : ℝ) : EReal) := by
  have hs := h.sum_ge
  have hq := h.square_ge
  rw [h.rdot_eq h, sqrt_coe _ (by positivity), Real.sqrt_div (by linarith), Real.sqrt_mul_self (by linarith)]

theorem Live.length_ge (h : Live x e) : 1 / 1000 ≤ Real.sqrt (∑ k, e k * e k) / ∑ k, e k := by
  have hs := h.sum_ge
  have hs' := h.sum_le
  have hq : 1 ≤ Real.sqrt (∑ k, e k * e k) := Real.one_le_sqrt.mpr h.square_ge
  rw [div_le_div_iff₀ (by norm_num) (by linarith)]
  linarith

/-- Two live rows: the two similarities are one real number. -/
theorem Live.cos (h : Live x e) (g : Live y f) : ∃ s : ℝ, kcos x y = s ∧ rcos x y = s := by
  have hs := h.sum_ge
  have gs := g.sum_ge
  have hq := h.square_ge
  have gq := g.square_ge
  refine ⟨(∑ k, e k * f k) * (Real.sqrt ((∑ k, e k * e k) * ∑ k, f k * f k))⁻¹, ?_, ?_⟩
  · unfold kcos
    rw [h.cross_eq g, h.cross_eq h, g.cross_eq g, ← EReal.coe_mul, rsqrt_coe _ (by positivity), ← EReal.coe_mul]
  · unfold rcos
    rw [h.length_eq, g.length_eq, ← EReal.coe_mul, max_eq_left, h.rdot_eq g, div_coe]
    · congr 1
      rw [Real.sqrt_mul (by linarith)]
      have h1 : Real.sqrt (∑ k, e k * e k) ≠ 0 := (Real.sqrt_pos.mpr (by linarith)).ne'
      have h2 : Real.sqrt (∑ k, f k * f k) ≠ 0 := (Real.sqrt_pos.mpr (by linarith)).ne'
      have h3 : (∑ k, e k) ≠ 0 := by linarith
      have h4 : (∑ k, f k) ≠ 0 := by linarith
      field_simp
    · have h1 := h.length_ge
      have h2 := g.length_ge
      have : 0 < Real.sqrt (∑ k, e k * e k) / (∑ k, e k) * (Real.sqrt (∑ k, f k * f k) / ∑ k, f k) := by
        apply mul_pos <;> linarith
      exact this.ne'
    · rw [eps_eq, EReal.coe_le_coe_iff]
      have h1 := h.length_ge
      have h2 := g.length_ge
      have h3 : (1 / 1000 : ℝ) * (1 / 1000) ≤ _ := mul_le_mul h1 h2 (by norm_num) (by linarith)
      refine le_trans ?_ h3
      norm_num

end Live

/-! ## A dead row -/

section Dead
variable {x y : Row}

theorem Dead.kcos_left (h : Dead x) : kcos x y = 0 := by
  unfold kcos cross
  simp only [h _, zero_mul, Finset.sum_const_zero]

theorem Dead.kcos_right (h : Dead y) : kcos x y = 0 := by
  unfold kcos cross
  simp only [h _, mul_zero, Finset.sum_const_zero, zero_mul]

theorem Dead.prob_eq (h : Dead x) (k : Fin 1000) : prob x k = ⊥ := by
  unfold prob
  simp only [rexpo_eq, h _, Finset.sum_const_zero]
  unfold Ideal.div
  rw [if_pos rfl, if_neg (lt_irrefl _)]

theorem sum_top : ∀ n : ℕ, ∑ _k : Fin (n + 1), (⊤ : EReal) = ⊤ := by
  intro n
  induction n with
  | zero => simp
  | succ n ih => rw [Fin.sum_univ_succ, ih]; rfl

theorem Dead.length_eq (h : Dead x) : Ideal.sqrt (rdot x x) = ⊤ := by
  unfold rdot
  simp only [h.prob_eq, EReal.bot_mul_bot]
  rw [sum_top 999]
  rfl

/-- Any row's length is positive. -/
theorem length_pos (x : Row) : 0 < Ideal.sqrt (rdot x x) := by
  rcases live_or_dead x with ⟨e, h⟩ | h
  · rw [h.length_eq, EReal.coe_pos]
    have := h.length_ge
    linarith
  · rw [h.length_eq]; exact EReal.zero_lt_top

theorem div_top (a : EReal) : Ideal.div a ⊤ = 0 := by
  unfold Ideal.div
  rw [if_neg EReal.top_ne_zero, EReal.inv_top, mul_zero]

theorem Dead.rcos_left (h : Dead x) : rcos x y = 0 := by
  unfold rcos
  rw [h.length_eq, EReal.top_mul_of_pos (length_pos y), max_eq_left le_top, div_top]

theorem Dead.rcos_right (h : Dead y) : rcos x y = 0 := by
  unfold rcos
  rw [h.length_eq, EReal.mul_top_of_pos (length_pos x), max_eq_left le_top, div_top]

end Dead

/-- The two similarities of any two rows are one real number. -/
theorem cos_real (x y : Row) : ∃ s : ℝ, kcos x y = s ∧ rcos x y = s := by
  rcases live_or_dead x with ⟨e, h⟩ | h
  · rcases live_or_dead y with ⟨f, g⟩ | g
    · exact h.cos g
    · exact ⟨0, g.kcos_right, g.rcos_right⟩
  · exact ⟨0, h.kcos_left, h.rcos_left⟩

/-! ## The logarithm of the sum of exponentials -/

theorem coe_max' (a b : ℝ) : max (a : EReal) (b : EReal) = ((max a b : ℝ) : EReal) :=
  (EReal.coe_strictMono.monotone.map_max).symm

/-- Taking any real out of the six exponents and adding it back. -/
theorem shift (s1 s2 s3 s4 s5 s6 t : ℝ) :
    Real.log (Real.exp (s1 - t) + Real.exp (s2 - t) + Real.exp (s3 - t) + Real.exp (s4 - t) + Real.exp (s5 - t) + Real.exp (s6 - t)) + t
      = Real.log (Real.exp s1 + Real.exp s2 + Real.exp s3 + Real.exp s4 + Real.exp s5 + Real.exp s6) := by
  have h : Real.exp s1 + Real.exp s2 + Real.exp s3 + Real.exp s4 + Real.exp s5 + Real.exp s6
      = (Real.exp (s1 - t) + Real.exp (s2 - t) + Real.exp (s3 - t) + Real.exp (s4 - t) + Real.exp (s5 - t) + Real.exp (s6 - t)) * Real.exp t := by
    simp only [add_mul, ← Real.exp_add, sub_add_cancel]
  rw [h, Real.log_mul (by positivity) (Real.exp_pos t).ne', Real.log_exp]

/-- The kernel's number for four rows is the reference's. -/
theorem kloss_eq (a b c d : Row) : kloss a b c d = rloss ![a, b, c, d] := by
  obtain ⟨s1, k1, r1⟩ := cos_real a b
  obtain ⟨s2, k2, r2⟩ := cos_real a c
  obtain ⟨s3, k3, r3⟩ := cos_real a d
  obtain ⟨s4, k4, r4⟩ := cos_real b c
  obtain ⟨s5, k5, r5⟩ := cos_real b d
  obtain ⟨s6, k6, r6⟩ := cos_real c d
  have hr : rloss ![a, b, c, d]
      = ((Real.log (Real.exp s1 + Real.exp s2 + Real.exp s3 + Real.exp s4 + Real.exp s5 + Real.exp s6) : ℝ) : EReal) := by
    unfold rloss
    rw [Fin.sum_univ_six]
    show Ideal.log (Ideal.exp (rcos a b) + Ideal.exp (rcos a c) + Ideal.exp (rcos a d) + Ideal.exp (rcos b c) + Ideal.exp (rcos b d)
      + Ideal.exp (rcos c d)) = _
    rw [r1, r2, r3, r4, r5, r6]
    simp only [exp_coe, ← EReal.coe_add]
    exact log_coe _ (by positivity)
  have hm : ∃ t : ℝ, kmax a b c d = t := by
    unfold kmax
    rw [k1, k2, k3, k4, k5, k6]
    simp only [coe_max']
    exact ⟨_, rfl⟩
  obtain ⟨t, ht⟩ := hm
  rw [hr]
  unfold kloss
  rw [ht, k1, k2, k3, k4, k5, k6]
  simp only [← EReal.coe_sub, exp_coe, ← EReal.coe_add]
  rw [log_coe _ (by positivity), ← EReal.coe_add, shift]

end Cert.Rows

end
-- ==== Proof.RefRows.lean ====
/- The reference's result, read over the extended reals: the mean, over the 16384 rows, of the reference's number for
   the four models' rows. -/
module

public import proofs.«01_k».proof.Proof.Gen.ReferenceIdeal.Run
public import proofs.«01_k».proof.Proof.Rows
public import Idealize.ShloMosaic.Lib.Pointwise

@[expose] public section

set_option maxRecDepth 16384

noncomputable section

namespace Cert.ReferenceIdeal.Whole

open Cert.ReferenceIdeal Cert.ReferenceIdeal.Gen Cert.ReferenceIdeal.Value Cert.Rows
open Idealize.ShloMosaic Idealize.ShloMosaic.TcCoe

/-! ## The result in steps -/

/-- The four models in one array. -/
def stack (a b c d : FVec Ideal S16384x1000 .f32) : FVec Ideal S4x16384x1000 .f32 :=
  concatenate S4x16384x1000 0
    [⟨S1x16384x1000, (broadcastInDim S1x16384x1000 ![1, 2] bcast_S16384x1000_S1x16384x1000_1_2 a : FVec Ideal S1x16384x1000 .f32)⟩,
     ⟨S1x16384x1000, (broadcastInDim S1x16384x1000 ![1, 2] bcast_S16384x1000_S1x16384x1000_1_2 b : FVec Ideal S1x16384x1000 .f32)⟩,
     ⟨S1x16384x1000, (broadcastInDim S1x16384x1000 ![1, 2] bcast_S16384x1000_S1x16384x1000_1_2 c : FVec Ideal S1x16384x1000 .f32)⟩,
     ⟨S1x16384x1000, (broadcastInDim S1x16384x1000 ![1, 2] bcast_S16384x1000_S1x16384x1000_1_2 d : FVec Ideal S1x16384x1000 .f32)⟩]
    concatenates_S1x16384x1000_S1x16384x1000_S1x16384x1000_S1x16384x1000_S4x16384x1000_d0

/-- The greatest entries of the rows. -/
def tops (v : FVec Ideal S4x16384x1000 .f32) : FVec Ideal S4x16384 .f32 :=
  Host.reduce FloatOps.maximumf v (constant S_ .f32 0xFF800000#32) reducesTo_S4x16384x1000_S4x16384_d2 h_S_

/-- The same, taken against minus infinity once more. -/
def topsLow (v : FVec Ideal S4x16384x1000 .f32) : FVec Ideal S4x16384 .f32 :=
  maximumf (broadcastInDim S4x16384 ![] bcast_S_S4x16384 (constant S_ .f32 0xFF800000#32)) (tops v)

/-- The exponentials of the entries less their rows' greatest. -/
def expos (v : FVec Ideal S4x16384x1000 .f32) : FVec Ideal S4x16384x1000 .f32 :=
  Host.exp (subf v (broadcastInDim S4x16384x1000 ![0, 1, 2] bcast_S4x16384x1_S4x16384x1000_0_1_2
    (broadcastInDim S4x16384x1 ![0, 1] bcast_S4x16384_S4x16384x1_0_1 (topsLow v))))

/-- The exponentials over their rows' sums. -/
def probs (e : FVec Ideal S4x16384x1000 .f32) : FVec Ideal S4x16384x1000 .f32 :=
  Host.divf e (broadcastInDim S4x16384x1000 ![0, 1, 2] bcast_S4x16384x1_S4x16384x1000_0_1_2
    (broadcastInDim S4x16384x1 ![0, 1] bcast_S4x16384_S4x16384x1_0_1
      (Host.reduceAdd e (constant S_ .f32 0x00000000#32) reducesTo_S4x16384x1000_S4x16384_d2 h_S_)))

/-- The lengths of the rows. -/
def lengths (p : FVec Ideal S4x16384x1000 .f32) : FVec Ideal S4x16384 .f32 :=
  Host.sqrt (Host.dotGeneral dot_S4x16384x1000_S4x16384x1000_S4x16384_2_2_n_n_01_01 none p p)

/-- The similarities of all pairs of models. -/
def sims (p : FVec Ideal S4x16384x1000 .f32) : FVec Ideal S4x4x16384 .f32 :=
  Host.divf (transpose S4x4x16384 [2, 1, 0] (Host.dotGeneral dot_S4x16384x1000_S4x16384x1000_S16384x4x4_2_2_0_0_1_1 none p p)
      transposes_S16384x4x4_S4x4x16384_2_1_0)
    (maximumf (mulf
        (broadcastInDim S4x4x16384 ![0, 1, 2] bcast_S4x1x16384_S4x4x16384_0_1_2
          (broadcastInDim S4x1x16384 ![0, 2] bcast_S4x16384_S4x1x16384_0_2 (lengths p)))
        (broadcastInDim S4x4x16384 ![0, 1, 2] bcast_S1x4x16384_S4x4x16384_0_1_2
          (broadcastInDim S1x4x16384 ![1, 2] bcast_S4x16384_S1x4x16384_1_2 (lengths p))))
      (broadcastInDim S4x4x16384 ![] bcast_S_S4x4x16384 (constant S_ .f32 0x358637BD#32)))

/-- The two models of each pair. -/
def pairs : IVec S6x2 32 :=
  concatenate S6x2 1
    [⟨S6x1, (broadcastInDim S6x1 ![0] bcast_S6_S6x1_0 (select (constantI S6 1 0#1)
        (addi (fun i => lit0 (S6.rowMajor i)) (broadcastInDim S6 ![] bcast_S_S6 (constantI S_ 32 4#32)))
        (fun i => lit0 (S6.rowMajor i))) : IVec S6x1 32)⟩,
     ⟨S6x1, (broadcastInDim S6x1 ![0] bcast_S6_S6x1_0 (select (constantI S6 1 0#1)
        (addi (fun i => lit1 (S6.rowMajor i)) (broadcastInDim S6 ![] bcast_S_S6 (constantI S_ 32 4#32)))
        (fun i => lit1 (S6.rowMajor i))) : IVec S6x1 32)⟩]
    concatenates_S6x1_S6x1_S6x2_d1

/-- The similarities of the six pairs. -/
def picked (q : FVec Ideal S4x4x16384 .f32) : FVec Ideal S6x16384 .f32 :=
  Host.gather gather_S4x4x16384_S6x2_S6x16384_1_01_n_n_01_1_1116384 q pairs

/-- The logarithm of the sum of their exponentials, row by row. -/
def losses (d : FVec Ideal S6x16384 .f32) : FVec Ideal S16384 .f32 :=
  Host.log (Host.reduceAdd (Host.exp d) (constant S_ .f32 0x00000000#32) reducesTo_S6x16384_S16384_d0 h_S_)

/-- The mean. -/
def mean (l : FVec Ideal S16384 .f32) : FVec Ideal S_ .f32 :=
  Host.divf (Host.reduceAdd l (constant S_ .f32 0x00000000#32) reducesTo_S16384_S_d0 h_S_) (constant S_ .f32 0x46800000#32)

/-- The result is these steps, one after the other. -/
theorem result_steps (m : (ℓ : Loc nD τ sig) → Buf (Elt Ideal) ℓ) (c : Dev nD) :
    res_main_v42 (F := Ideal) m c = mean (losses (picked (sims (probs (expos (stack
      (m ((c.tc : Thread nD τ).loc main_arg0)) (m ((c.tc : Thread nD τ).loc main_arg1))
      (m ((c.tc : Thread nD τ).loc main_arg2)) (m ((c.tc : Thread nD τ).loc main_arg3)))))))) := rfl

/-! ## Each step at an index -/

/-- Row `n` of a model, and of model `p` in the array of the four. -/
def rowAt (a : FVec Ideal S16384x1000 .f32) (n : Fin 16384) : Row := fun k => a (ix2 n k)
def stackRow (v : FVec Ideal S4x16384x1000 .f32) (p : Fin 4) (n : Fin 16384) : Row := fun k => v (ix3 p n k)

section
variable (v : FVec Ideal S4x16384x1000 .f32) (p q : Fin 4) (n : Fin 16384) (k : Fin 1000)

theorem stack_at0 (a b c d : FVec Ideal S16384x1000 .f32) : stack a b c d (ix3 0 n k) = a (ix2 n k) := by pointwise [stack]
theorem stack_at1 (a b c d : FVec Ideal S16384x1000 .f32) : stack a b c d (ix3 1 n k) = b (ix2 n k) := by pointwise [stack]
theorem stack_at2 (a b c d : FVec Ideal S16384x1000 .f32) : stack a b c d (ix3 2 n k) = c (ix2 n k) := by pointwise [stack]
theorem stack_at3 (a b c d : FVec Ideal S16384x1000 .f32) : stack a b c d (ix3 3 n k) = d (ix2 n k) := by pointwise [stack]

theorem stackRow_stack (a b c d : FVec Ideal S16384x1000 .f32) :
    stackRow (stack a b c d) p n = (![rowAt a n, rowAt b n, rowAt c n, rowAt d n] : Fin 4 → Row) p := by
  funext k
  match p with
  | 0 => exact stack_at0 n k a b c d
  | 1 => exact stack_at1 n k a b c d
  | 2 => exact stack_at2 n k a b c d
  | 3 => exact stack_at3 n k a b c d

theorem fold_at (z : FVec Ideal S_ .f32) : Host.reduce FloatOps.maximumf v z reducesTo_S4x16384x1000_S4x16384_d2 h_S_ (ix2 p n)
    = Finset.univ.fold max (z (Shape.Idx.first h_S_)) (stackRow v p n) := by
  pointwise
  rfl

theorem tops_at : tops v (ix2 p n) = top (stackRow v p n) := (fold_at v p n _).trans rfl

theorem raise_at (z : FVec Ideal S_ .f32) (w : FVec Ideal S4x16384 .f32) :
    maximumf (broadcastInDim S4x16384 ![] bcast_S_S4x16384 z) w (ix2 p n) = max (z ix0) (w (ix2 p n)) := by pointwise

theorem topsLow_at : topsLow v (ix2 p n) = max low (top (stackRow v p n)) := by
  rw [← tops_at]
  exact raise_at p n _ _

theorem lower_at (w : FVec Ideal S4x16384 .f32) :
    Host.exp (subf v (broadcastInDim S4x16384x1000 ![0, 1, 2] bcast_S4x16384x1_S4x16384x1000_0_1_2
      (broadcastInDim S4x16384x1 ![0, 1] bcast_S4x16384_S4x16384x1_0_1 w))) (ix3 p n k) = Ideal.exp (v (ix3 p n k) - w (ix2 p n)) := by
  pointwise

theorem expos_at : expos v (ix3 p n k) = rexpo (stackRow v p n) k :=
  (lower_at v p n k (topsLow v)).trans (congrArg (fun u => Ideal.exp (v (ix3 p n k) - u)) (topsLow_at v p n))

theorem probs_at : probs (expos v) (ix3 p n k) = prob (stackRow v p n) k := by pointwise [probs, prob, expos_at]

theorem lengths_at : lengths (probs (expos v)) (ix2 p n) = Ideal.sqrt (rdot (stackRow v p n) (stackRow v p n)) := by
  pointwise [lengths, rdot, probs_at]

theorem sims_at : sims (probs (expos v)) (ix3 p q n) = rcos (stackRow v p n) (stackRow v q n) := by
  pointwise [sims, rcos, rdot, lengths_at, probs_at, eps]
  congr 1
  exact Finset.sum_congr rfl fun k _ => mul_comm _ _
end

theorem pairs_at : ∀ (p : Fin 6), pairs (ix2 p 0) = BitVec.ofNat 32 (pairFst p).val ∧ pairs (ix2 p 1) = BitVec.ofNat 32 (pairSnd p).val := by
  intro p
  fin_cases p <;> exact ⟨rfl, rfl⟩

theorem picked_at (x : FVec Ideal S4x4x16384 .f32) (p : Fin 6) (n : Fin 16384) :
    picked x (ix2 p n) = x (ix3 (pairFst p) (pairSnd p) n) := by
  unfold picked Host.gather
  refine congrArg x (funext fun a => Fin.ext ?_)
  fin_cases p <;> fin_cases a <;> first | rfl | exact Nat.zero_add n.val

theorem losses_at (d : FVec Ideal S6x16384 .f32) (n : Fin 16384) :
    losses d (ix1 n) = Ideal.log (∑ p : Fin 6, Ideal.exp (d (ix2 p n))) := by
  pointwise [losses]

theorem mean_at (l : FVec Ideal S16384 .f32) (j : S_.Idx) : mean l j = Ideal.div (∑ n : Fin 16384, l (ix1 n)) Cert.Rows.count := by
  pointwise [mean, Cert.Rows.count]

/-- The reference's result: the mean of the rows' numbers. -/
theorem result_rows (a b c d : FVec Ideal S16384x1000 .f32) (j : S_.Idx) :
    mean (losses (picked (sims (probs (expos (stack a b c d)))))) j
      = Ideal.div (∑ n : Fin 16384, rloss ![rowAt a n, rowAt b n, rowAt c n, rowAt d n]) Cert.Rows.count := by
  rw [mean_at]
  refine congrArg (Ideal.div · Cert.Rows.count) (Finset.sum_congr rfl fun n _ => ?_)
  rw [losses_at]
  unfold rloss
  refine congrArg Ideal.log (Finset.sum_congr rfl fun p _ => congrArg Ideal.exp ?_)
  rw [picked_at, sims_at, stackRow_stack, stackRow_stack]

end Cert.ReferenceIdeal.Whole

end
-- ==== Proof.lean ====
/- What is claimed of the kernel and of its reference, put together. The frames are Proof/KernelFrame.lean's and
   Proof/IdealFrame.lean's; the kernel's value is Proof/KernelRun.lean's, the reference's Proof/RefRows.lean's, and
   Proof/RowLaws.lean shows that the two agree on every four rows. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealFrame
public import proofs.«01_k».proof.Proof.KernelRun
public import proofs.«01_k».proof.Proof.RowLaws
public import proofs.«01_k».proof.Proof.Gen.ReferenceIdeal
public import proofs.«01_k».proof.Proof.Gen.ReferenceIdeal.Run
public import proofs.«01_k».proof.Proof.RefRows
public import Idealize.ShloMosaic.Adequacy
public import Idealize.ShloMosaic.Init

@[expose] public section

noncomputable section

namespace Cert.Proof

open Idealize.ShloMosaic Idealize.SL Idealize.SL.Sem

theorem frameKernel : quiescent_Kernel (hKernel := Cert.Kernel.Gen.facts) :=
  fun m g _ => Cert.Kernel.Whole.frame m g

theorem frameIdeal : quiescent_KernelIdeal (hKernelIdeal := Cert.KernelIdeal.Gen.facts) :=
  fun m g _ => Cert.KernelIdeal.Whole.frame m g

theorem frameReference : quiescent_ReferenceIdeal (hReferenceIdeal := Cert.ReferenceIdeal.Gen.facts) :=
  fun m g _ => (θ_run _ _ _).mono
    (fun r h => ⟨fun c => (h c).2, Idealize.ShloMosaic.sem_eq_zero_of_no_sems (by decide) r.2⟩) (Cert.ReferenceIdeal.Value.run m g)

/-- From equal arguments the reference's result is the kernel's: both are the mean, over the 16384 rows, of the same
    extended real. -/
theorem same_mean
    (m : (ℓ : Loc Cert.KernelIdeal.nD Cert.KernelIdeal.τ Cert.KernelIdeal.sig) → Buf (Elt Ideal) ℓ) (c : Dev Cert.KernelIdeal.nD) :
    Cert.ReferenceIdeal.Whole.mean (Cert.ReferenceIdeal.Whole.losses (Cert.ReferenceIdeal.Whole.picked (Cert.ReferenceIdeal.Whole.sims
      (Cert.ReferenceIdeal.Whole.probs (Cert.ReferenceIdeal.Whole.expos (Cert.ReferenceIdeal.Whole.stack
        (Cert.KernelIdeal.Whole.A0 m c) (Cert.KernelIdeal.Whole.A1 m c) (Cert.KernelIdeal.Whole.A2 m c) (Cert.KernelIdeal.Whole.A3 m c)))))))
      = Cert.KernelIdeal.Whole.meanOf (Cert.KernelIdeal.Whole.sums m c) := by
  funext j
  refine (Cert.ReferenceIdeal.Whole.result_rows _ _ _ _ j).trans
    (Eq.trans ?_ (Cert.KernelIdeal.Whole.meanOf_sums m c j).symm)
  exact congrArg (Ideal.div · Cert.Rows.count) (Finset.sum_congr rfl fun n _ => (Cert.Rows.kloss_eq _ _ _ _).symm)

theorem algebraic : algebraic_KernelIdeal_ReferenceIdeal (hKernelIdeal := Cert.KernelIdeal.Gen.facts)
    (hReferenceIdeal := Cert.ReferenceIdeal.Gen.facts) := by
  intro m g m' g' _ agree
  refine ⟨fun c => Cert.KernelIdeal.Whole.meanOf (Cert.KernelIdeal.Whole.sums m c), Cert.KernelIdeal.Whole.run_value m g, ?_⟩
  refine (θ_run _ _ _).mono (fun r h c => ⟨?_, (h c).2⟩) (Cert.ReferenceIdeal.Value.run m' g')
  obtain ⟨h0, h1, h2, h3⟩ := agree c
  refine (h c).1.trans ((Cert.ReferenceIdeal.Whole.result_steps m' c).trans ?_)
  rw [h0, h1, h2, h3]
  exact same_mean m c

theorem claim : Cert.Claim :=
  ⟨Cert.Kernel.Gen.facts, Cert.KernelIdeal.Gen.facts, Cert.ReferenceIdeal.Gen.facts, frameKernel, frameIdeal, frameReference, trivial,
    algebraic⟩

end Cert.Proof

end
